-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rows_and_columns_bounded_KernelIdeal [hPre_rows_and_columns_bounded_KernelIdeal : Cert.Pre_rows_and_columns_bounded_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_rows_and_columns_bounded_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_and_columns_bounded_ReferenceIdeal [hPre_rows_and_columns_bounded_ReferenceIdeal : Cert.Pre_rows_and_columns_bounded_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_and_columns_bounded_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_SiluIdeal (m : (ℓ : Loc Cert.SiluIdeal.nD Cert.SiluIdeal.τ Cert.SiluIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rows_and_columns_bounded_KernelIdeal [hKernelIdeal : Cert.KernelIdeal.Facts] [hPre_rows_and_columns_bounded_KernelIdeal : Cert.Pre_rows_and_columns_bounded_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_and_columns_bounded_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rows_and_columns_bounded_ReferenceIdeal [hReferenceIdeal : Cert.ReferenceIdeal.Facts] [hPre_rows_and_columns_bounded_ReferenceIdeal : Cert.Pre_rows_and_columns_bounded_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_and_columns_bounded_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_SiluIdeal [hSiluIdeal : Cert.SiluIdeal.Facts] : Prop :=
  ∀ (m : (ℓ : Loc Cert.SiluIdeal.nD Cert.SiluIdeal.τ Cert.SiluIdeal.sig) → Buf (Elt Ideal) ℓ) (g : Dev Cert.SiluIdeal.nD → PrngReg), Pre_SiluIdeal m →
    θ_run (Cert.SiluIdeal.defs (F := Ideal)) (onTc (τ := Cert.SiluIdeal.τ) (Cert.SiluIdeal.main (F := Ideal))) ⟨m, fun _ => 0, g⟩ (fun r => (∀ c : Dev Cert.SiluIdeal.nD,
      r.2.mem ((c.tc : Thread Cert.SiluIdeal.nD Cert.SiluIdeal.τ).loc Cert.SiluIdeal.main_arg0) = m ((c.tc : Thread Cert.SiluIdeal.nD Cert.SiluIdeal.τ).loc Cert.SiluIdeal.main_arg0)
      ∧ r.2.mem ((c.tc : Thread Cert.SiluIdeal.nD Cert.SiluIdeal.τ).loc Cert.SiluIdeal.main_arg1) = m ((c.tc : Thread Cert.SiluIdeal.nD Cert.SiluIdeal.τ).loc Cert.SiluIdeal.main_arg1))
      ∧ r.2.sem = fun _ => 0)

def preserves_Kernel_KernelIdeal : Prop :=
  True

def algebraic_KernelIdeal_SiluIdeal [hKernelIdeal : Cert.KernelIdeal.Facts] [hSiluIdeal : Cert.SiluIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.SiluIdeal.nD Cert.SiluIdeal.τ Cert.SiluIdeal.sig) → Buf (Elt Ideal) ℓ) (g' : Dev Cert.SiluIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 1024]⟩ ⟨2, ![1024, 1024]⟩ 0 4 c (m' (((0 : Dev Cert.SiluIdeal.nD).tc : Thread Cert.SiluIdeal.nD Cert.SiluIdeal.τ).loc Cert.SiluIdeal.main_arg0))
      ∧ m ((c.tc : Thread Cert.KernelIdeal.nD Cert.KernelIdeal.τ).loc Cert.KernelIdeal.main_arg1) = Layout.block ⟨2, ![1024, 256]⟩ ⟨2, ![1024, 1024]⟩ 1 4 c (m' (((0 : Dev Cert.SiluIdeal.nD).tc : Thread Cert.SiluIdeal.nD Cert.SiluIdeal.τ).loc Cert.SiluIdeal.main_arg1))) →
    ∃ (v0 : Buf (Elt Ideal) (((0 : Dev Cert.SiluIdeal.nD).tc : Thread Cert.SiluIdeal.nD Cert.SiluIdeal.τ).loc Cert.SiluIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 256]⟩ ⟨2, ![1024, 1024]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.SiluIdeal.defs (F := Ideal)) (onTc (τ := Cert.SiluIdeal.τ) (Cert.SiluIdeal.main (F := Ideal))) ⟨m', fun _ => 0, g'⟩ (fun r =>
          r.2.mem (((0 : Dev Cert.SiluIdeal.nD).tc : Thread Cert.SiluIdeal.nD Cert.SiluIdeal.τ).loc Cert.SiluIdeal.main_v5) = v0
          ∧ r.2.mem (((0 : Dev Cert.SiluIdeal.nD).tc : Thread Cert.SiluIdeal.nD Cert.SiluIdeal.τ).loc Cert.SiluIdeal.main_arg0) = m' (((0 : Dev Cert.SiluIdeal.nD).tc : Thread Cert.SiluIdeal.nD Cert.SiluIdeal.τ).loc Cert.SiluIdeal.main_arg0)
          ∧ r.2.mem (((0 : Dev Cert.SiluIdeal.nD).tc : Thread Cert.SiluIdeal.nD Cert.SiluIdeal.τ).loc Cert.SiluIdeal.main_arg1) = m' (((0 : Dev Cert.SiluIdeal.nD).tc : Thread Cert.SiluIdeal.nD Cert.SiluIdeal.τ).loc Cert.SiluIdeal.main_arg1))

def algebraic_KernelIdeal_ReferenceIdeal_pre_rows_and_columns_bounded_KernelIdeal [hKernelIdeal : Cert.KernelIdeal.Facts] [hReferenceIdeal : Cert.ReferenceIdeal.Facts] [hPre_rows_and_columns_bounded_KernelIdeal : Cert.Pre_rows_and_columns_bounded_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_and_columns_bounded_KernelIdeal m →
    (∀ c : Dev Cert.KernelIdeal.nD,
      m ((c.tc : Thread Cert.KernelIdeal.nD Cert.KernelIdeal.τ).loc Cert.KernelIdeal.main_arg0) = Layout.block ⟨2, ![256, 1024]⟩ ⟨2, ![1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 256]⟩ ⟨2, ![1024, 1024]⟩ 1 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 256]⟩ ⟨2, ![1024, 1024]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hSiluIdeal : Cert.SiluIdeal.Facts) (hPre_rows_and_columns_bounded_KernelIdeal : Cert.Pre_rows_and_columns_bounded_KernelIdeal.Facts) (hPre_rows_and_columns_bounded_ReferenceIdeal : Cert.Pre_rows_and_columns_bounded_ReferenceIdeal.Facts),
    quiescent_Kernel (hKernel := hKernel)
    ∧ quiescent_KernelIdeal (hKernelIdeal := hKernelIdeal)
    ∧ quiescent_KernelIdeal_pre_rows_and_columns_bounded_KernelIdeal (hKernelIdeal := hKernelIdeal) (hPre_rows_and_columns_bounded_KernelIdeal := hPre_rows_and_columns_bounded_KernelIdeal)
    ∧ quiescent_ReferenceIdeal (hReferenceIdeal := hReferenceIdeal)
    ∧ quiescent_ReferenceIdeal_pre_rows_and_columns_bounded_ReferenceIdeal (hReferenceIdeal := hReferenceIdeal) (hPre_rows_and_columns_bounded_ReferenceIdeal := hPre_rows_and_columns_bounded_ReferenceIdeal)
    ∧ quiescent_SiluIdeal (hSiluIdeal := hSiluIdeal)
    ∧ preserves_Kernel_KernelIdeal
    ∧ algebraic_KernelIdeal_SiluIdeal (hKernelIdeal := hKernelIdeal) (hSiluIdeal := hSiluIdeal)
    ∧ algebraic_KernelIdeal_ReferenceIdeal_pre_rows_and_columns_bounded_KernelIdeal (hKernelIdeal := hKernelIdeal) (hReferenceIdeal := hReferenceIdeal) (hPre_rows_and_columns_bounded_KernelIdeal := hPre_rows_and_columns_bounded_KernelIdeal)
-- ==== Pre_rows_and_columns_bounded_KernelIdeal.lean ====
abbrev S256x1024 : Shape := ⟨2, ![256, 1024]⟩
abbrev S1024x256 : Shape := ⟨2, ![1024, 256]⟩
abbrev S_ : Shape := ⟨0, ![]⟩
abbrev S256 : Shape := ⟨1, ![256]⟩

class Facts : Prop where
  reducesTo_S256x1024_S256_d1 : S256x1024.ReducesTo [1] S256
  h_S_ : 0 < S_.numel
  bcast_S_S256 : S_.BroadcastsInDim S256 (![] : Fin 0 → Fin S256.rank)
  reducesTo_S256_S_d0 : S256.ReducesTo [0] S_
  reducesTo_S1024x256_S256_d0 : S1024x256.ReducesTo [0] S256

variable [Facts]

def fn {F : FTy → Type} [FloatOps F] (main_arg0 : FVec F S256x1024 .f32) (main_arg1 : FVec F S1024x256 .f32) : IVec S_ 1 :=
  let main_v0 : FVec F S256x1024 .f32 := mulf main_arg0 main_arg0
  let main_cst : FVec F S_ .f32 := constant S_ .f32 0x00000000#32
  let main_v1 : FVec F S256 .f32 := (fun x v => Host.reduceAdd x v reducesTo_S256x1024_S256_d1 h_S_) main_v0 main_cst
  let main_cst_0 : FVec F S_ .f32 := constant S_ .f32 0x44C80000#32
  let main_v2 : FVec F S256 .f32 := broadcastInDim S256 ![] bcast_S_S256 main_cst_0
  let main_v3 : IVec S256 1 := cmpf .ole main_v1 main_v2
  let main_c : IVec S_ 1 := constantI S_ 1 1#1
  let main_v4 : IVec S_ 1 := (fun x v => Host.reduce IntOp.andi x v reducesTo_S256_S_d0 h_S_) main_v3 main_c
  let main_v5 : FVec F S1024x256 .f32 := mulf main_arg1 main_arg1
  let main_cst_1 : FVec F S_ .f32 := constant S_ .f32 0x00000000#32
  let main_v6 : FVec F S256 .f32 := (fun x v => Host.reduceAdd x v reducesTo_S1024x256_S256_d0 h_S_) main_v5 main_cst_1
  let main_cst_2 : FVec F S_ .f32 := constant S_ .f32 0x40100000#32
  let main_v7 : FVec F S256 .f32 := broadcastInDim S256 ![] bcast_S_S256 main_cst_2
  let main_v8 : IVec S256 1 := cmpf .ole main_v6 main_v7
  let main_c_3 : IVec S_ 1 := constantI S_ 1 1#1
  let main_v9 : IVec S_ 1 := (fun x v => Host.reduce IntOp.andi x v reducesTo_S256_S_d0 h_S_) main_v8 main_c_3
  let main_v10 : IVec S_ 1 := andi main_v4 main_v9
  main_v10
-- ==== Pre_rows_and_columns_bounded_ReferenceIdeal.lean ====
abbrev S1024x1024 : Shape := ⟨2, ![1024, 1024]⟩
abbrev S_ : Shape := ⟨0, ![]⟩
abbrev S1024 : Shape := ⟨1, ![1024]⟩

class Facts : Prop where
  reducesTo_S1024x1024_S1024_d1 : S1024x1024.ReducesTo [1] S1024
  h_S_ : 0 < S_.numel
  bcast_S_S1024 : S_.BroadcastsInDim S1024 (![] : Fin 0 → Fin S1024.rank)
  reducesTo_S1024_S_d0 : S1024.ReducesTo [0] S_
  reducesTo_S1024x1024_S1024_d0 : S1024x1024.ReducesTo [0] S1024

variable [Facts]

def fn {F : FTy → Type} [FloatOps F] (main_arg0 : FVec F S1024x1024 .f32) (main_arg1 : FVec F S1024x1024 .f32) : IVec S_ 1 :=
  let main_v0 : FVec F S1024x1024 .f32 := mulf main_arg0 main_arg0
  let main_cst : FVec F S_ .f32 := constant S_ .f32 0x00000000#32
  let main_v1 : FVec F S1024 .f32 := (fun x v => Host.reduceAdd x v reducesTo_S1024x1024_S1024_d1 h_S_) main_v0 main_cst
  let main_cst_0 : FVec F S_ .f32 := constant S_ .f32 0x44C80000#32
  let main_v2 : FVec F S1024 .f32 := broadcastInDim S1024 ![] bcast_S_S1024 main_cst_0
  let main_v3 : IVec S1024 1 := cmpf .ole main_v1 main_v2
  let main_c : IVec S_ 1 := constantI S_ 1 1#1
  let main_v4 : IVec S_ 1 := (fun x v => Host.reduce IntOp.andi x v reducesTo_S1024_S_d0 h_S_) main_v3 main_c
  let main_v5 : FVec F S1024x1024 .f32 := mulf main_arg1 main_arg1
  let main_cst_1 : FVec F S_ .f32 := constant S_ .f32 0x00000000#32
  let main_v6 : FVec F S1024 .f32 := (fun x v => Host.reduceAdd x v reducesTo_S1024x1024_S1024_d0 h_S_) main_v5 main_cst_1
  let main_cst_2 : FVec F S_ .f32 := constant S_ .f32 0x40100000#32
  let main_v7 : FVec F S1024 .f32 := broadcastInDim S1024 ![] bcast_S_S1024 main_cst_2
  let main_v8 : IVec S1024 1 := cmpf .ole main_v6 main_v7
  let main_c_3 : IVec S_ 1 := constantI S_ 1 1#1
  let main_v9 : IVec S_ 1 := (fun x v => Host.reduce IntOp.andi x v reducesTo_S1024_S_d0 h_S_) main_v8 main_c_3
  let main_v10 : IVec S_ 1 := andi main_v4 main_v9
  main_v10
-- ==== Kernel.lean ====
abbrev S256x1024 : Shape := ⟨2, ![256, 1024]⟩
abbrev S1024x256 : Shape := ⟨2, ![1024, 256]⟩
abbrev S6 : Shape := ⟨1, ![6]⟩
abbrev S2 : Shape := ⟨1, ![2]⟩
abbrev S8 : Shape := ⟨1, ![8]⟩
abbrev S1 : Shape := ⟨1, ![1]⟩
abbrev S_ : Shape := ⟨0, ![]⟩
abbrev S128x1024 : Shape := ⟨2, ![128, 1024]⟩
abbrev S128x256 : Shape := ⟨2, ![128, 256]⟩

abbrev nBuf : Space → Nat
  | .hbm => 3
  | .vmem => 6
  | .smem => 0
  | _ => 0

abbrev bufTy : (tb : Table) → Fin (tcTables nBuf tb) → BufTy
  | .hbm, ⟨0, _⟩ => ⟨S256x1024, .f32⟩
  | .hbm, ⟨1, _⟩ => ⟨S1024x256, .f32⟩
  | .hbm, ⟨2, _⟩ => ⟨S1024x256, .f32⟩
  | .local _ .vmem, ⟨0, _⟩ => ⟨S256x1024, .f32⟩
  | .local _ .vmem, ⟨1, _⟩ => ⟨S1024x256, .f32⟩
  | .local _ .vmem, ⟨2, _⟩ => ⟨S1024x256, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_23 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_22 : BitVec 32 := 1#32
  let v41 : BitVec 32 := Scalar.muli v13 c1_i32_22
  let v42 : BitVec 32 := Scalar.addi c0_i32_23 v41
  v42.toNat
def k0_dev2 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_25 : BitVec 32 := 1#32
  let v43 : BitVec 32 := Scalar.muli v24 c1_i32_25
  let v44 : BitVec 32 := Scalar.addi c0_i32_26 v43
  v44.toNat
def k0_dev3 (d0 : Dev nD) : Nat :=
  let c0_i32_32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_31 : BitVec 32 := 1#32
  let v47 : BitVec 32 := Scalar.muli v24 c1_i32_31
  let v48 : BitVec 32 := Scalar.addi c0_i32_32 v47
  v48.toNat
def k0_dev4 (d0 : Dev nD) : Nat :=
  let c0_i32_40 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_39 : BitVec 32 := 1#32
  let v55 : BitVec 32 := Scalar.muli v13 c1_i32_39
  let v56 : BitVec 32 := Scalar.addi c0_i32_40 v55
  v56.toNat
def k0_dev5 (d0 : Dev nD) : Nat :=
  let c0_i32_47 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_46 : BitVec 32 := 1#32
  let v63 : BitVec 32 := Scalar.muli v24 c1_i32_46
  let v64 : BitVec 32 := Scalar.addi c0_i32_47 v63
  v64.toNat
def k0_dev6 (d0 : Dev nD) : Nat :=
  let c0_i32_54 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_53 : BitVec 32 := 1#32
  let v71 : BitVec 32 := Scalar.muli v13 c1_i32_53
  let v72 : BitVec 32 := Scalar.addi c0_i32_54 v71
  v72.toNat
def k0_off1 (d0 : Dev nD) (c0_i32_63 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v84 : BitVec 32 := Scalar.muli v2 c256_i32
  let v85 : BitVec 32 := Scalar.addi v84 c0_i32_63
  let v88 : Index := Scalar.indexCast v85
  let c0_64 : Index := 0#32
  ![v88.toNat, 0]
def k0_off2 (d0 : Dev nD) (c0_i32_63 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v84 : BitVec 32 := Scalar.muli v2 c256_i32
  let v85 : BitVec 32 := Scalar.addi v84 c0_i32_63
  let c0_i32_66 : BitVec 32 := 0#32
  ![v85.toNat, 0]
def k0_dev7 (d0 : Dev nD) : Nat :=
  let c0_i32_89 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_88 : BitVec 32 := 1#32
  let v117 : BitVec 32 := Scalar.muli v24 c1_i32_88
  let v118 : BitVec 32 := Scalar.addi c0_i32_89 v117
  v118.toNat
def k0_off3 (d0 : Dev nD) (c0_i32_100 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c256_i32_99 : BitVec 32 := 256#32
  let v128 : BitVec 32 := Scalar.muli v13 c256_i32_99
  let v129 : BitVec 32 := Scalar.addi v128 c0_i32_100
  let v132 : Index := Scalar.indexCast v129
  let c0_101 : Index := 0#32
  ![v132.toNat, 0]
def k0_off4 (d0 : Dev nD) (c0_i32_100 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c256_i32_99 : BitVec 32 := 256#32
  let v128 : BitVec 32 := Scalar.muli v13 c256_i32_99
  let v129 : BitVec 32 := Scalar.addi v128 c0_i32_100
  let c0_i32_103 : BitVec 32 := 0#32
  ![v129.toNat, 0]
def k0_dev8 (d0 : Dev nD) : Nat :=
  let c0_i32_115 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_114 : BitVec 32 := 1#32
  let v146 : BitVec 32 := Scalar.muli v13 c1_i32_114
  let v147 : BitVec 32 := Scalar.addi c0_i32_115 v146
  v147.toNat
def k0_off5 (d0 : Dev nD) (c1_i32_6 : BitVec 32) (c128_i32_126 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c256_i32_125 : BitVec 32 := 256#32
  let v157 : BitVec 32 := Scalar.muli v24 c256_i32_125
  let v158 : BitVec 32 := Scalar.addi v157 c128_i32_126
  let v161 : Index := Scalar.indexCast v158
  let c0_127 : Index := 0#32
  ![v161.toNat, 0]
def k0_off6 (d0 : Dev nD) (c1_i32_6 : BitVec 32) (c128_i32_126 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c256_i32_125 : BitVec 32 := 256#32
  let v157 : BitVec 32 := Scalar.muli v24 c256_i32_125
  let v158 : BitVec 32 := Scalar.addi v157 c128_i32_126
  let c0_i32_129 : BitVec 32 := 0#32
  ![v158.toNat, 0]
-- ==== ReferenceIdeal.lean ====
abbrev S1024x1024 : Shape := ⟨2, ![1024, 1024]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S1024x1024, .f32⟩
  | .hbm, ⟨7, _⟩ => ⟨S1024x1024, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S_, .f32⟩
  | .hbm, ⟨14, _⟩ => ⟨S1024x1024, .f32⟩
  | .hbm, ⟨15, _⟩ => ⟨S1024x1024, .f32⟩
  | .hbm, ⟨16, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== SiluIdeal.lean ====
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S_, .f32⟩
  | .hbm, ⟨6, _⟩ => ⟨S1024x1024, .f32⟩
  | .hbm, ⟨7, _⟩ => ⟨S1024x1024, .f32⟩
  | .hbm, ⟨8, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Protocol.lean ====
/-
# The protocol of the four devices

Each device holds 256 rows of `x` and sends them, in two halves of 128 rows, both ways around the ring
of four; the half that arrives first from either side is sent on one device further. This module states
the contract of every semaphore the devices share.

* The barrier semaphore of a device is signalled once by each neighbour. The signal of the device after it
  hands over that device's `from_left` buffer (both halves) and the top half of its `opposite` buffer; the signal
  of the device before it hands over that device's `from_right` buffer and the bottom half of its
  `opposite` buffer: the buffers that this device is going to write.
* Receive semaphore `j` (`j < 6`) of a device is credited once, by a neighbour's remote copy, and hands
  over one landed half, at the contents of the rows it came from.
* Send semaphore `j` of a device is credited once, by its own remote copy, and hands back the share of
  the copy's source.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The shared cells' rounds, with two duties at most in a round; -/
abbrev UB : Type := URounds (GSem nD τ sig) Bool
/-- beside them the counters of the copies a device makes within itself. -/
abbrev UU : Type := UR sig nD τ × (UB × Counters)

local notation "𝕄" => MT nD τ sig Unit (Elt F) ℕ UU ℕ

/-- The launch's part of the ghost state. -/
abbrev EP : Emb (UR sig nD τ) (MT nD τ sig Unit (Elt F) ℕ UU ℕ) := embL
/-- The protocol's part of the ghost state. -/
def ER : Emb UB (MT nD τ sig Unit (Elt F) ℕ UU ℕ) :=
  (Emb.inl : Emb UB (UB × Counters)).trans (embR : Emb (UB × Counters) (MT nD τ sig Unit (Elt F) ℕ UU ℕ))
/-- The local copies' part of it. -/
abbrev EC : UEmb Counters (MT nD τ sig Unit (Elt F) ℕ UU ℕ) := countersEmb (U := UU)
instance ER_landsIn : (ER : Emb UB 𝕄).LandsIn (upEmb : UEmb _ 𝕄) := by unfold ER; infer_instance

variable (m : (ℓ : Loc nD τ sig) → Buf (Elt F) ℓ)

/-! ## The ring of devices -/

set_option backward.proofsInPublic true in
/-- The device to the right, -/
def nxt (c : Dev nD) : Dev nD := ⟨(c.val + 1) % 4, Nat.mod_lt _ (by decide)⟩
set_option backward.proofsInPublic true in
/-- and the one to the left. -/
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide
theorem prv_prv (c : Dev nD) : prv (prv c) = nxt (nxt c) := by revert c; decide
/-- One step around the ring, as a permutation of the devices. -/
def ring : Dev nD ≃ Dev nD := ⟨nxt, prv, prv_nxt, nxt_prv⟩

/-- The devices the kernel names: its signals and its transfers go to the neighbours. -/
theorem dev1_eq (c : Dev nD) : (⟨k0_dev1 c, k0_dev1_lt c⟩ : Dev nD) = prv c := by revert c; decide +kernel
theorem dev2_eq (c : Dev nD) : (⟨k0_dev2 c, k0_dev2_lt c⟩ : Dev nD) = nxt c := by revert c; decide +kernel
theorem dev3_eq (c : Dev nD) : (⟨k0_dev3 c, k0_dev3_lt c⟩ : Dev nD) = nxt c := by revert c; decide +kernel
theorem dev4_eq (c : Dev nD) : (⟨k0_dev4 c, k0_dev4_lt c⟩ : Dev nD) = prv c := by revert c; decide +kernel
theorem dev5_eq (c : Dev nD) : (⟨k0_dev5 c, k0_dev5_lt c⟩ : Dev nD) = nxt c := by revert c; decide +kernel
theorem dev6_eq (c : Dev nD) : (⟨k0_dev6 c, k0_dev6_lt c⟩ : Dev nD) = prv c := by revert c; decide +kernel
theorem dev7_eq (c : Dev nD) : (⟨k0_dev7 c, k0_dev7_lt c⟩ : Dev nD) = nxt c := by revert c; decide +kernel
theorem dev8_eq (c : Dev nD) : (⟨k0_dev8 c, k0_dev8_lt c⟩ : Dev nD) = prv c := by revert c; decide +kernel

/-! ## Buffers and halves -/

/-- The staged block of `x`. -/
abbrev xM : Memref sig .tc .vmem S256x1024 .f32 := Memref.whole cc0_scratch0
/-- The staged block of `w`. -/
abbrev wM : Memref sig .tc .vmem S1024x256 .f32 := Memref.whole cc0_scratch1
/-- The staging buffer of the result. -/
abbrev oM : Memref sig .tc .vmem S1024x256 .f32 := Memref.whole cc0_scratch2
/-- The landing buffer from the left. -/
abbrev lM : Memref sig .tc .vmem S256x1024 .f32 := Memref.whole cc0_scratch3
/-- The landing buffer from the right. -/
abbrev gM : Memref sig .tc .vmem S256x1024 .f32 := Memref.whole cc0_scratch4
/-- The landing buffer of the device across the ring. -/
abbrev pM : Memref sig .tc .vmem S256x1024 .f32 := Memref.whole cc0_scratch5
/-- The result. -/
abbrev yM : Memref sig .tc .hbm S1024x256 .f32 := Memref.whole main_v1

/-- The first and the last 128 of 256 rows, -/
abbrev rT : Rect S256x1024 := Rect.unit (s := S256x1024) ![0, 0] S128x1024.size inb_S256x1024_S128x1024_0_0
/-- The bottom half of a block of 256 rows. -/
abbrev rB : Rect S256x1024 := Rect.unit (s := S256x1024) ![128, 0] S128x1024.size inb_S256x1024_S128x1024_128_0
/-- and a buffer's view of them. -/
abbrev top (M : Memref sig .tc .vmem S256x1024 .f32) : Memref sig .tc .vmem S128x1024 .f32 := M.slice rT (fun _ => rfl)
/-- The bottom half of a buffer. -/
abbrev bot (M : Memref sig .tc .vmem S256x1024 .f32) : Memref sig .tc .vmem S128x1024 .f32 := M.slice rB (fun _ => rfl)

/-- Device `d`'s rows of `x` and columns of the weight at launch. -/
def xb (d : Dev nD) : (cc0_scratch0 : Ref sig .tc).ty.Contents (Elt F) := m ((d : Thread nD τ).loc main_arg0)
/-- Device `d`'s block of `w`. -/
def wb (d : Dev nD) : (cc0_scratch1 : Ref sig .tc).ty.Contents (Elt F) := m ((d : Thread nD τ).loc main_arg1)

/-- A half `V` of a buffer of device `c`, held at share `q` with contents `f`. -/
def held (V : Memref sig .tc .vmem S128x1024 .f32) (c : Dev nD) (q : PosShare TreeShare)
    (f : Buf (Elt F) (V.view.loc (c : Thread nD τ))) : sProp 𝕄 :=
  V.view.loc (c : Thread nD τ) ↦[V.view.set]{q} f
/-- The same at the full share and some contents. -/
def room (V : Memref sig .tc .vmem S128x1024 .f32) (c : Dev nD) : sProp 𝕄 := iprop(∃ f, held V c fullShare f)

omit [FloatOps F] in
instance held_storable (V : Memref sig .tc .vmem S128x1024 .f32) (c : Dev nD) (q) (f) :
    BI.Storable (upEmb : UEmb _ 𝕄) (held (F := F) V c q f) := by unfold held; infer_instance
omit [FloatOps F] in
instance room_storable (V : Memref sig .tc .vmem S128x1024 .f32) (c : Dev nD) :
    BI.Storable (upEmb : UEmb _ 𝕄) (room (F := F) V c) := by unfold room; infer_instance

/-- The three shares of a half that two copies and the loads read at once. -/
abbrev q₀ : PosShare TreeShare := fullShare.left
abbrev q₁ : PosShare TreeShare := fullShare.right.left
abbrev q₂ : PosShare TreeShare := fullShare.right.right

/-! ## Semaphores and cells -/

/-- The barrier semaphore. -/
abbrev barS : Sem sig := (SemArray.scalar (sig.barrier 0 rfl) : Sems sig S_).sem

/-- The shared semaphores: the barrier, then the six send and the six receive semaphores. -/
abbrev csem : Fin 13 → SemLoc sig
  | ⟨0, _⟩ => .reg barS
  | ⟨k + 1, h⟩ => .dma ⟨k, by have : sig.nDmaSem = 22 := rfl; omega⟩
/-- Shared semaphore `k` of device `c`. -/
abbrev kcell (ck : Dev nD × Fin 13) : GSem nD τ sig := ((ck.1 : Thread nD τ), csem ck.2)

/-- What one copy of a half credits. -/
abbrev N : ℕ := (top xM).view.dmaCredit
/-- A half copied pays a positive credit. -/
theorem N_pos : 0 < N := View.dmaCredit_pos _ (by decide)

/-! ## The schedule -/

/-- What the DMA semaphore `i` of device `c` hands over. -/
def dpay (c : Dev nD) (i : ℕ) : sProp 𝕄 :=
  match i with
  | 0 => held (top xM) c q₀ (xb m c)
  | 1 => held (bot xM) c q₀ (xb m c)
  | 2 => held (bot xM) c q₁ (xb m c)
  | 3 => held (top xM) c q₁ (xb m c)
  | 4 => held (top lM) c q₀ (xb m (prv c))
  | 5 => held (bot gM) c q₀ (xb m (nxt c))
  | 6 => held (top lM) c fullShare (xb m (prv c))
  | 7 => held (bot lM) c fullShare (xb m (prv c))
  | 8 => held (bot gM) c fullShare (xb m (nxt c))
  | 9 => held (top gM) c fullShare (xb m (nxt c))
  | 10 => held (top pM) c fullShare (xb m (prv (prv c)))
  | 11 => held (bot pM) c fullShare (xb m (nxt (nxt c)))
  | _ => iprop(emp)

/-- What a signal on the barrier of device `c` hands over: from the device to the right (`true`) the halves
    that `c` writes there, from the device to the left (`false`) likewise. -/
def bpay (c : Dev nD) (b : Bool) : sProp 𝕄 :=
  if b then iprop(room (top lM) (nxt c) ∗ room (bot lM) (nxt c) ∗ room (top pM) (nxt c))
  else iprop(room (top gM) (prv c) ∗ room (bot gM) (prv c) ∗ room (bot pM) (prv c))

/-- The contract: one round; the barrier has two duties of one unit, a send or receive semaphore one duty of
    a half's credit. -/
def Rd : Rounds.Schedule (GSem nD τ sig) Bool 𝕄 where
  duties g r :=
    if r = 0 ∧ g.1.2 = .tc then
      match g.2 with
      | .reg _ => Finset.univ
      | .dma i => if i.val < 12 then {false} else ∅
    else ∅
  unitless _ := False
  amount g _ _ := match g.2 with
    | .reg _ => 1
    | .dma _ => N
  payload g _ b := match g.2 with
    | .reg _ => bpay g.1.1 b
    | .dma i => dpay m g.1.1 i.val
  amount_pos g _ _ _ := by
    rcases g with ⟨_, _ | _⟩
    · exact Nat.one_pos
    · exact N_pos

omit [FloatOps F] in
instance dpay_storable (c : Dev nD) (i : ℕ) : BI.Storable (upEmb : UEmb _ 𝕄) (dpay (F := F) m c i) := by
  unfold dpay; split <;> infer_instance
omit [FloatOps F] in
instance bpay_storable (c : Dev nD) (b : Bool) : BI.Storable (upEmb : UEmb _ 𝕄) (bpay (F := F) c b) := by
  unfold bpay; split <;> infer_instance
omit [FloatOps F] in
instance Rd_payload_storable (g : GSem nD τ sig) (r : ℕ) (d : Bool) :
    BI.Storable (upEmb : UEmb _ 𝕄) ((Rd (F := F) m).payload g r d) := by
  rcases g with ⟨⟨c, p⟩, s | i⟩
  · exact bpay_storable c d
  · exact dpay_storable m c i.val

section Tables

variable (c : Dev nD)

/-- The barrier cell and the DMA cell `i` of device `c`. -/
abbrev bcell : GSem nD τ sig := ((c : Thread nD τ), .reg barS)
/-- A copy's semaphore on device `c`. -/
abbrev dcell (i : DmaSem sig) : GSem nD τ sig := ((c : Thread nD τ), .dma i)

omit [FloatOps F] in
/-- The barrier is signalled by both neighbours. -/
theorem duties_bar : (Rd (F := F) m).duties (bcell c) 0 = Finset.univ := by
  dsimp only [Rd]; exact if_pos ⟨rfl, rfl⟩
omit [FloatOps F] in
/-- A shared copy semaphore is paid once, by its copy. -/
theorem duties_dma {i : DmaSem sig} (hi : i.val < 12) : (Rd (F := F) m).duties (dcell c i) 0 = {false} := by
  dsimp only [Rd]; rw [if_pos ⟨rfl, rfl⟩, if_pos hi]
omit [FloatOps F] in
/-- No cell has a second round. -/
theorem duties_later (g : GSem nD τ sig) : ∀ r, 1 ≤ r → (Rd (F := F) m).duties g r = ∅ :=
  fun r hr => by dsimp only [Rd]; rw [if_neg fun h => by omega]
omit [FloatOps F] in
/-- The barrier expects two. -/
theorem expect_bar : (Rd (F := F) m).expect (bcell c) 0 = 2 := by
  unfold Schedule.expect Schedule.amountOf; rw [duties_bar]; rfl
omit [FloatOps F] in
/-- A shared copy semaphore expects the credit of one half. -/
theorem expect_dma {i : DmaSem sig} (hi : i.val < 12) : (Rd (F := F) m).expect (dcell c i) 0 = N := by
  unfold Schedule.expect Schedule.amountOf; rw [duties_dma m c hi, Finset.sum_singleton]; rfl

omit [FloatOps F] in
/-- What the wait on the barrier hands over: both neighbours' payloads. -/
theorem rest_bar : bigSep ((Rd (F := F) m).duties (bcell c) 0 \ ∅) (fun d => (Rd (F := F) m).payload (bcell c) 0 d)
    = iprop(bpay c false ∗ bpay c true) := by
  rw [Finset.sdiff_empty, duties_bar, bigSep_univ_eq_bigSepL [false, true] (by decide) (by decide), bigSepL_cons_cons, bigSepL_singleton]
  rfl
omit [FloatOps F] in
/-- What the wait on a send or receive semaphore hands over: its one payload. -/
theorem rest_dma {i : DmaSem sig} (hi : i.val < 12) :
    bigSep ((Rd (F := F) m).duties (dcell c i) 0 \ ∅) (fun d => (Rd (F := F) m).payload (dcell c i) 0 d) = dpay m c i.val := by
  rw [Finset.sdiff_empty, duties_dma m c hi, bigSep_singleton]; rfl

end Tables

/-! ## Debts and levels -/

/-- The cells device `c` owes a payment at launch, the last paid first: the two forwarded halves, the four own
    halves, the two barrier signals; -/
def debt (c : Dev nD) : ℕ → GSem nD τ sig
  | 0 => dcell (prv c) 11
  | 1 => dcell (nxt c) 10
  | 2 => dcell (prv c) 9
  | 3 => dcell (nxt c) 7
  | 4 => dcell (prv c) 8
  | 5 => dcell (nxt c) 6
  | 6 => bcell (nxt c)
  | _ => bcell (prv c)
/-- how much, -/
def due : ℕ → ℕ := fun n => if n < 6 then N else 1
/-- and what is owed while `n` payments remain. -/
def rem (c : Dev nD) : ℕ → CellTallies nD τ sig Unit
  | 0 => 0
  | n + 1 => rem c n + tallyAt (debt c n) () (due n)

def L (g : GSem nD τ sig) : Finset Unit := if g.1.2 = .tc then {()} else ∅
/-- The order of waiting: a device's own copies and its send semaphores, then the barrier, then the halves of the
    neighbours, then the forwarded halves. -/
def slv : SemLoc sig → ℕ
  | .reg _ => 1
  | .dma i => if i.val < 6 then 0 else if i.val < 10 then 2 else if i.val < 12 then 3 else 0
def lv (g : GSem nD τ sig) (_ : Unit) : ℕ := slv g.2

/-- Only the devices' own threads are waited on. -/
theorem L_of_ne (g : GSem nD τ sig) (h : g.1.2 ≠ .tc) : L g = ∅ := if_neg h
/-- What a device owes it owes to such a thread. -/
theorem debt_tc (c : Dev nD) (n : ℕ) : (debt c n).1.2 = .tc := by unfold debt; split <;> rfl

/-- Only the remaining debts are owed. -/
theorem rem_pos {c : Dev nD} {g : GSem nD τ sig} {u : Unit} : ∀ {n : ℕ}, 0 < rem c n g u → ∃ k < n, g = debt c k
  | 0, h => absurd h (Nat.lt_irrefl 0)
  | n + 1, h => by
    rw [rem, Pi.add_apply, Finsupp.add_apply, tallyAt_apply] at h
    by_cases hg : g = debt c n ∧ u = ()
    · exact ⟨n, Nat.lt_succ_self n, hg.1⟩
    · rw [if_neg hg, Nat.add_zero] at h
      obtain ⟨k, hk, e⟩ := rem_pos h
      exact ⟨k, Nat.lt_succ_of_lt hk, e⟩

omit [FloatOps F] in
/-- A device waits on a semaphore below everything it still owes. -/
theorem mayWait (c : Dev nD) (sm : SemLoc sig) (n : ℕ) (h : ∀ k < n, slv sm < slv (debt c k).2) :
    (levAts L lv : sProp 𝕄) ⊢ MayWait (c : Thread nD τ) sm () (rem c n) :=
  MayOwe.of_cut (L := L) (lev := lv) (slv sm)
    (fun p hp => by rw [Finset.mem_singleton.mp hp]; exact Finset.mem_singleton_self _)
    (fun g u hg => by
      obtain ⟨k, _, rfl⟩ := rem_pos hg
      unfold L; rw [if_pos (debt_tc c k)]; exact Finset.mem_singleton_self _)
    (fun p hp => by rw [Finset.mem_singleton.mp hp]; exact Nat.le_refl _)
    (fun g u hg => by obtain ⟨k, hk, rfl⟩ := rem_pos hg; exact h k hk)

end Cert.RingProof
-- ==== Proof.Blocks.lean ====
/-
# The blocks the kernel works on

The kernel reads and sends halves of 256 rows, and computes the result in eight blocks of 128 rows. This
module states how a buffer is held half by half or block by block, and what each block of the result holds.
-/
module

public import proofs.«01_k».proof.Proof.Protocol
public import Idealize.ShloMosaic.Lib.Pointwise.Index
public import Idealize.ShloMosaic.Lib.Ring.Trips

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Halves -/

/-- The two halves share no index. -/
theorem halves_disjoint : Disjoint rT.set rB.set :=
  Rect.disjoint_of_axis rT rB 0 fun j₁ h₁ j₂ h₂ => by
    change 0 + 1 * j₁ ≠ 128 + 1 * j₂
    change j₁ < 128 at h₁
    omega

/-- The two halves are all of the block. -/
theorem halves_cover : rT.set ∪ rB.set = Finset.univ := by
  ext i
  refine ⟨fun _ => Finset.mem_univ _, fun _ => ?_⟩
  have h0 : (i 0).val < 256 := (i 0).isLt
  have h1 : (i 1).val < 1024 := (i 1).isLt
  rw [Finset.mem_union, LoadRect.mem_set, LoadRect.mem_set]
  rcases Nat.lt_or_ge (i 0).val 128 with h | h
  · refine .inl fun a => ?_
    fin_cases a
    · exact ⟨(i 0).val, h, by change (i 0).val = 0 + 1 * (i 0).val; omega⟩
    · exact ⟨(i 1).val, h1, by change (i 1).val = 0 + 1 * (i 1).val; omega⟩
  · refine .inr fun a => ?_
    fin_cases a
    · exact ⟨(i 0).val - 128, by change _ < 128; omega, by change (i 0).val = 128 + 1 * ((i 0).val - 128); omega⟩
    · exact ⟨(i 1).val, h1, by change (i 1).val = 0 + 1 * (i 1).val; omega⟩

omit [FloatOps F] in
/-- A buffer of 256 rows is held as its two halves. -/
theorem halves_eq (b : Memref sig .tc .vmem S256x1024 .f32) (c : Dev nD) (q : PosShare TreeShare)
    (f : Buf (Elt F) (b.view.loc (c : Thread nD τ))) :
    (b.view.loc (c : Thread nD τ) ↦[b.view.set]{q} f : sProp 𝕄) ⊣⊢ iprop(held (top b) c q f ∗ held (bot b) c q f) := by
  have hset : b.view.set = (top b).view.set ∪ (bot b).view.set := by
    rw [show (top b).view.set = rT.set.map b.view.emb from View.set_slice _ _,
      show (bot b).view.set = rB.set.map b.view.emb from View.set_slice _ _, ← Finset.map_union, halves_cover]
    rfl
  have hdis : Disjoint (top b).view.set (bot b).view.set := by
    rw [show (top b).view.set = rT.set.map b.view.emb from View.set_slice _ _,
      show (bot b).view.set = rB.set.map b.view.emb from View.set_slice _ _]
    exact (Finset.disjoint_map _).mpr halves_disjoint
  unfold held
  rw [hset]
  exact pointsTo_union hdis

omit [FloatOps F] in
/-- The same where the buffer is the whole of its cell. -/
theorem halves_whole (b : Memref sig .tc .vmem S256x1024 .f32) (hb : b.view.set = Finset.univ) (c : Dev nD)
    (q : PosShare TreeShare) (f : Buf (Elt F) (b.view.loc (c : Thread nD τ))) :
    (b.view.loc (c : Thread nD τ) ↦{q} f : sProp 𝕄) ⊣⊢ iprop(held (top b) c q f ∗ held (bot b) c q f) :=
  hb ▸ halves_eq b c q f

omit [FloatOps F] in
/-- A half held outright is held in three shares, -/
theorem held_thirds (V : Memref sig .tc .vmem S128x1024 .f32) (c : Dev nD) (f) :
    (held V c fullShare f : sProp 𝕄) ⊣⊢ iprop(held V c q₀ f ∗ held V c q₁ f ∗ held V c q₂ f) := by
  unfold held; exact Ring.pointsTo_thirds fullShare f
omit [FloatOps F] in
/-- or in two. -/
theorem held_halves (V : Memref sig .tc .vmem S128x1024 .f32) (c : Dev nD) (f) :
    (held V c fullShare f : sProp 𝕄) ⊣⊢ iprop(held V c q₀ f ∗ held V c fullShare.right f) := by
  unfold held; exact pointsTo_share (PosShare.mem_left_op_right fullShare)

/-- Rows `128 h` to `128 h + 127` of a block of 256 rows. -/
def half (h : Fin 2) (X : S256x1024.Idx → Elt F .f32) : S128x1024.Idx → Elt F .f32 :=
  fun y => X (ix2 ⟨128 * h.val + (y 0).val, by have := (y 0).isLt; change _ < 128 at this; have := h.isLt; omega⟩ (y 1))

/-- An index of the top half, in the whole block: the same row. -/
theorem emb_top (y : S128x1024.Idx) : rT.emb y = ix2 ⟨128 * (0 : Fin 2).val + (y 0).val, by have := (y 0).isLt; change _ < 128 at this; simp; omega⟩ (y 1) := by
  funext a; apply Fin.ext
  fin_cases a
  · change 0 + 1 * (y 0).val = 128 * 0 + (y 0).val; omega
  · change 0 + 1 * (y 1).val = (y 1).val; omega
/-- An index of the bottom half, in the whole block: 128 rows further down. -/
theorem emb_bot (y : S128x1024.Idx) : rB.emb y = ix2 ⟨128 * (1 : Fin 2).val + (y 0).val, by have := (y 0).isLt; change _ < 128 at this; simp; omega⟩ (y 1) := by
  funext a; apply Fin.ext
  fin_cases a
  · change 128 + 1 * (y 0).val = 128 * 1 + (y 0).val; omega
  · change 0 + 1 * (y 1).val = (y 1).val; omega

omit [FloatOps F] in
/-- A half landed from a view that reads the same holds the source's contents. -/
theorem held_landing (V V' : Memref sig .tc .vmem S128x1024 .f32) (c c' : Dev nD)
    (fs : Buf (Elt F) (V.view.loc (c : Thread nD τ))) (fd f' : Buf (Elt F) (V'.view.loc (c' : Thread nD τ)))
    (h : V'.view.read (Elt F) f' = V.view.read (Elt F) fs) :
    (V'.view.loc (c' : Thread nD τ) ↦[V'.view.set]{fullShare} V'.view.write (Elt F) fd (V.view.read (Elt F) fs) Finset.univ : sProp 𝕄)
      = held V' c' fullShare f' := by
  unfold held
  refine pointsTo_congr fun i hi => ?_
  obtain ⟨y, -, rfl⟩ := Finset.mem_map.mp hi
  rw [View.write_emb_of_mem _ _ (Finset.mem_univ y), ← h, View.read_apply]
  simp only [cast_cast, cast_eq]

/-! ## Row blocks of the result -/

/-- Rows `n` to `n + 127` of the result. -/
def rset (n : ℕ) : Finset S1024x256.Idx := Finset.univ.filter fun i => n ≤ (i 0).val ∧ (i 0).val < n + 128

/-- The 128 rows of the result that begin at an offset. -/
abbrev rowsAt (off : Fin 2 → ℕ) (h : ∀ a, off a + S128x256.size a ≤ S1024x256.size a) : Rect S1024x256 :=
  Rect.unit (s := S1024x256) off S128x256.size h

/-- Its indices are those whose row is one of the 128. -/
theorem rowsAt_set {n : ℕ} (h : ∀ a, (![n, 0] : Fin 2 → ℕ) a + S128x256.size a ≤ S1024x256.size a) : (rowsAt ![n, 0] h).set = rset n := by
  ext i
  unfold rset
  rw [LoadRect.mem_set, Finset.mem_filter]
  have h1 : (i 1).val < 256 := (i 1).isLt
  constructor
  · intro H
    obtain ⟨j, hj, e⟩ := H 0
    change j < 128 at hj
    change (i 0).val = n + 1 * j at e
    exact ⟨Finset.mem_univ _, by omega, by omega⟩
  · rintro ⟨-, H⟩ a
    fin_cases a
    · exact ⟨(i 0).val - n, by change _ < 128; omega, by change (i 0).val = n + 1 * ((i 0).val - n); omega⟩
    · exact ⟨(i 1).val, h1, by change (i 1).val = 0 + 1 * (i 1).val; omega⟩

/-- The eight blocks in the order in which device `c` computes them: whose rows of `x` they use, -/
def own (c : Dev nD) : Fin 8 → Dev nD := ![c, c, prv c, nxt c, prv c, nxt c, prv (prv c), nxt (nxt c)]
/-- which half of them, -/
def hf : Fin 8 → Fin 2 := ![0, 1, 0, 1, 1, 0, 0, 1]
/-- and at which row of the result they begin. -/
def row (c : Dev nD) (j : Fin 8) : ℕ := 256 * (own c j).val + 128 * (hf j).val

/-- The eight blocks of a device begin at different rows. -/
theorem row_injective (c : Dev nD) : ∀ j j' : Fin 8, row c j = row c j' → j = j' := by
  revert c; decide
/-- Each multiple of 128 below 1024 is where one of them begins. -/
theorem row_surjective (c : Dev nD) : ∀ k : Fin 8, ∃ j, row c j = 128 * k.val := by
  revert c; decide
/-- They begin at multiples of 128. -/
theorem row_dvd (c : Dev nD) (j : Fin 8) : 128 ∣ row c j := ⟨2 * (own c j).val + (hf j).val, by unfold row; omega⟩

/-- Two different blocks share no index. -/
theorem rset_disjoint (c : Dev nD) (j j' : Fin 8) (h : j ≠ j') : Disjoint (rset (row c j)) (rset (row c j')) := by
  rw [Finset.disjoint_left]
  intro i h₁ h₂
  have h₁ := (Finset.mem_filter.mp h₁).2
  have h₂ := (Finset.mem_filter.mp h₂).2
  obtain ⟨a, ha⟩ := row_dvd c j
  obtain ⟨b, hb⟩ := row_dvd c j'
  exact h (row_injective c j j' (by omega))

/-- The eight blocks are all of the result. -/
theorem rset_cover (c : Dev nD) : Finset.univ.biUnion (fun j => rset (row c j)) = Finset.univ := by
  ext i
  refine ⟨fun _ => Finset.mem_univ _, fun _ => ?_⟩
  have h0 : (i 0).val < 1024 := (i 0).isLt
  obtain ⟨j, hj⟩ := row_surjective c ⟨(i 0).val / 128, by omega⟩
  refine Finset.mem_biUnion.mpr ⟨j, Finset.mem_univ _, Finset.mem_filter.mpr ⟨Finset.mem_univ _, ?_⟩⟩
  rw [hj]; dsimp only; omega

/-- The result on device `c`: its block of rows `128 k …` is computed from half `k % 2` of the rows of
    device `k / 2` and the columns of the weight that `c` has. -/
def fin (c : Dev nD) : S1024x256.Idx → Elt F .f32 := fun i =>
  k0_pay1 (half ⟨(i 0).val / 128 % 2, Nat.mod_lt _ (by decide)⟩
      (xb m ⟨(i 0).val / 256, by have h : (i 0).val < 1024 := (i 0).isLt; change _ < 4; omega⟩)) (wb m c)
    (ix2 ⟨(i 0).val % 128, Nat.mod_lt _ (by decide)⟩ (i 1))

/-- What device `c` computes as block `j`. -/
def blk (c : Dev nD) (j : Fin 8) : S128x256.Idx → Elt F .f32 := k0_pay1 (half (hf j) (xb m (own c j))) (wb m c)

/-- The result, read through the rows of a block, is what the device computes as that block. -/
theorem fin_emb (c : Dev nD) (j : Fin 8) {off : Fin 2 → ℕ} (e : off = ![row c j, 0])
    (h : ∀ a, off a + S128x256.size a ≤ S1024x256.size a) (y : S128x256.Idx) : fin m c ((rowsAt off h).emb y) = blk m c j y := by
  subst e
  have hy : (y 0).val < 128 := (y 0).isLt
  have h0 : ((rowsAt ![row c j, 0] h).emb y 0).val = row c j + (y 0).val := by
    change row c j + 1 * (y 0).val = _; omega
  have h1 : (rowsAt ![row c j, 0] h).emb y 1 = y 1 := Fin.ext (by change 0 + 1 * (y 1).val = _; omega)
  have hh : (hf j).val < 2 := (hf j).isLt
  unfold fin blk
  have e1 : (⟨((rowsAt ![row c j, 0] h).emb y 0).val / 128 % 2, Nat.mod_lt _ (by decide)⟩ : Fin 2) = hf j :=
    Fin.ext (by dsimp only; rw [h0]; unfold row; omega)
  have e2 : ∀ p, (⟨((rowsAt ![row c j, 0] h).emb y 0).val / 256, p⟩ : Dev nD) = own c j :=
    fun p => Fin.ext (by dsimp only; rw [h0]; unfold row; omega)
  rw [e1, e2]
  congr 1
  funext a
  fin_cases a
  · exact Fin.ext (by change ((rowsAt ![row c j, 0] h).emb y 0).val % 128 = (y 0).val; rw [h0]; unfold row; omega)
  · exact h1

attribute [irreducible] rset fin blk

end Cert.RingProof
-- ==== Proof.Steps.lean ====
/-
# One step of the kernel at a time

The rules the body's proof applies: a remote copy of a half, a wait for one, a load of a half, a block of the
result computed, copied out and waited for. Each states what the step takes and what it gives back.
-/
module

public import proofs.«01_k».proof.Proof.Blocks

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : (ℓ : Loc nD τ sig) → Buf (Elt F) ℓ)

abbrev 𝒱₀ : Variants := Variants.none

/-- The weakest precondition of a program of device `c` that needs no bound on its steps. -/
abbrev wpc (c : Dev nD) {α : Type} (e : Prog (TpuEff nD τ sig (Elt F) Λ₀ .tc) α) (Q : α → sProp 𝕄) : sProp 𝕄 :=
  wp frame (wpE (defs₀ (F := F)) 𝒱₀ (c : Thread nD τ) none) Set.univ e Q

/-- A program that has ended. -/
theorem wp_done {c : Dev nD} {α : Type} {a : α} {Q : α → sProp 𝕄} : Q a ⊢ wpc c (.ret a) Q := by
  unfold wpc; rw [wp_ret]; exact fupd_intro

/-! ## What a device holds of the shared cells -/

/-- The invariants of all shared cells under their names `K`, that each is open for its one round, and the order of
    waiting: known to every device throughout. -/
def records (K : Dev nD × Fin 13 → ℕ) : sProp 𝕄 :=
  iprop((bigSep Finset.univ fun ck : Dev nD × Fin 13 => cellInv ER (Rd m) (K ck) (kcell ck))
    ∗ (bigSep Finset.univ fun ck : Dev nD × Fin 13 => reached ER (kcell ck) 0) ∗ levAts L lv)

omit [FloatOps F] in
instance records_persistent (K : Dev nD × Fin 13 → ℕ) : BI.Persistent (records m K : sProp 𝕄) := by
  unfold records; infer_instance

section Records

variable (K : Dev nD × Fin 13 → ℕ)

omit [FloatOps F] in
/-- The contract of one shared cell. -/
theorem inv_at (ck : Dev nD × Fin 13) : (records m K : sProp 𝕄) ⊢ cellInv ER (Rd m) (K ck) (kcell ck) := by
  refine BIBase.Entails.trans (Q := bigSep Finset.univ fun ck : Dev nD × Fin 13 => cellInv ER (Rd m) (K ck) (kcell ck)) ?_ (bigSep_elim (Finset.mem_univ ck))
  unfold records
  iintro ⟨H, -, -⟩; iexact H
omit [FloatOps F] in
/-- Its first round has begun. -/
theorem reached_at (ck : Dev nD × Fin 13) : (records m K : sProp 𝕄) ⊢ reached ER (kcell ck) 0 := by
  refine BIBase.Entails.trans (Q := bigSep Finset.univ fun ck : Dev nD × Fin 13 => reached ER (kcell ck) 0) ?_ (bigSep_elim (Finset.mem_univ ck))
  unfold records
  iintro ⟨-, H, -⟩; iexact H
omit [FloatOps F] in
/-- The levels of all cells. -/
theorem levs_at : (records m K : sProp 𝕄) ⊢ levAts L lv := by
  unfold records; iintro ⟨-, -, H⟩; iexact H

/-- The index of the DMA cell `i` among the shared ones. -/
abbrev kix {i : DmaSem sig} (hi : i.val < 12) : Fin 13 := ⟨i.val + 1, by omega⟩

/-- Device `c` still owes `n` payments. -/
def owing (c : Dev nD) (n : ℕ) : sProp 𝕄 := iprop(∃ W, owes (c : Thread nD τ) (rem c n) W)
/-- The right to pay cell `i` of device `n`. -/
def tok (n : Dev nD) (i : DmaSem sig) : sProp 𝕄 := dutyTok ER (dcell n i) 0 false
/-- Send cell `i` before its copy is issued; -/
def idle (c : Dev nD) (i : DmaSem sig) : sProp 𝕄 := iprop(atPos ER (dcell c i) 0 ∅ 0 ∗ tok c i)
/-- a cell that a wait may be made on; -/
def expects (c : Dev nD) (i : DmaSem sig) : sProp 𝕄 :=
  iprop(atPos ER (dcell c i) 0 ∅ 0 ∗ cred (tallyAt (dcell c i) () N))
/-- a cell done with: its counter at zero. -/
def spent (c : Dev nD) (i : DmaSem sig) : sProp 𝕄 := semVal (dcell c i) 0

/-- A remote copy of the half `src` into the half `dst` of device `n`: it takes a share of the source, the room, the
    two rights to pay and one debt. -/
theorem wp_copyTo {c n n' : Dev nD} (hn : n' = n) {sS sR : DmaSem sig} (hS : sS.val < 12) (hR : sR.val < 12) (l : ℕ)
    (hl : l < 6) (hd : debt c l = dcell n sR) {src : Memref sig .tc .vmem S128x1024 .f32}
    {dst : Memref sig (Dev.tc n' : Thread nD τ).2.kind .vmem S128x1024 .f32} {hsc : dst.view.ref.isScScratch = false}
    {hsrc : src.view.WordExact} {hdst : dst.view.WordExact}
    {hsem : DmaTarget.Typed .vmem (.dma sR) (.remote (Dev.tc n' : Thread nD τ) dst (.dma sS) hsc)}
    {α : Type} {Q : α → sProp 𝕄} {k : PUnit → Prog (TpuEff nD τ sig (Elt F) Λ₀ .tc) α} {q : PosShare TreeShare}
    {fs : Buf (Elt F) (src.view.loc (c : Thread nD τ))} (f' : Buf (Elt F) (dst.view.loc (n : Thread nD τ)))
    (hN : dst.view.dmaCredit = N) (hpS : (held src c q fs : sProp 𝕄) ⊢ dpay m c sS.val)
    (hpR : (held dst n fullShare f' : sProp 𝕄) ⊢ dpay m n sR.val)
    (hread : dst.view.read (Elt F) f' = src.view.read (Elt F) fs) :
    iprop(records m K ∗ held src c q fs ∗ room dst n ∗ owing c (l + 1) ∗ idle c sS ∗ tok n sR)
      ⊢ iprop(((expects c sS ∗ owing c l) -∗ wpc c (k ⟨⟩) Q)
          -∗ wpc c (.op (.enqueueDma src (.remote (Dev.tc n' : Thread nD τ) dst (.dma sS) hsc) (.dma sR) hsrc hdst hsem) k) Q) := by
  subst hn
  unfold room owing idle expects tok
  iintro ⟨#HR, Hs, ⟨%fd, Hd⟩, ⟨%W, HO⟩, ⟨Ha, Ht⟩, Ht'⟩ Hk
  have hO : rem c (l + 1) = rem c l + tallyAt (dcell n' sR) () N := by
    rw [rem, hd, due, if_pos hl]
  unfold held
  iapply (Rounds.wp_send_pointsTo 𝒱₀ ER (Rd m) (c : Thread nD τ) none (κ₁ := K (c, kix hS)) (κ₂ := K (n', kix hR))
    (r₁ := 0) (r₂ := 0) (d₁ := false) (d₂ := false) (fd := fd) (src := src) (dst := dst) (sS := .dma sS) (sem := .dma sR) (q := q) (fs := fs)
    (by rw [duties_dma m c hS]; exact Finset.mem_singleton_self _) (by rw [duties_dma m n' hR]; exact Finset.mem_singleton_self _)
    () () N (show dst.view.amount (.dma sR) = N from hN) rfl rfl (rem c l) hO (W := W) hpS ((Entails.of_eq (held_landing src dst c n' fs fd f' hread)).trans hpR))
    $$ [Hs Hd HO Ht Ht']
  · isplitr; · iapply (inv_at m K (c, kix hS)); iexact HR
    isplitr; · iapply (inv_at m K (n', kix hR)); iexact HR
    isplitl [Hs]; · iexact Hs
    isplitl [Hd]; · iexact Hd
    isplitl [HO]; · iexact HO
    isplitl [Ht]; · iexact Ht
    isplitr; · iapply (reached_at m K (c, kix hS)); iexact HR
    isplitl [Ht']; · iexact Ht'
    iapply (reached_at m K (n', kix hR)); iexact HR
  iintro ⟨Hc, HO⟩
  iapply Hk
  isplitl [Ha Hc]
  · isplitl [Ha]; · iexact Ha
    iexact Hc
  iexists W; iexact HO

omit [FloatOps F] in
/-- A device may wait on a cell below everything that it still owes. -/
theorem mayWait_at (c : Dev nD) (sm : SemLoc sig) (n : ℕ) (h : ∀ k < n, slv sm < slv (debt c k).2) :
    (records m K : sProp 𝕄) ⊢ MayWait (c : Thread nD τ) sm () (rem c n) := (levs_at m K).trans (mayWait c sm n h)

/-- The wait on send or receive cell `s`, below everything still owed: it hands over the cell's payload, and the cell
    is done with. -/
theorem wp_await {c : Dev nD} {s : DmaSem sig} (hs : s.val < 12) (n : ℕ) (h : ∀ k < n, slv (.dma s) < slv (debt c k).2)
    {srcw dstw : Memref sig .tc .vmem S128x1024 .f32} {hsrc : srcw.view.WordExact} {hdst : dstw.view.WordExact}
    {α : Type} {Q : α → sProp 𝕄} {k : PUnit → Prog (TpuEff nD τ sig (Elt F) Λ₀ .tc) α} (hN : dstw.view.dmaCredit = N)
    {P : sProp 𝕄} (hP : dpay m c s.val ⊢ P) :
    iprop(records m K ∗ expects c s ∗ owing c n)
      ⊢ iprop(((P ∗ spent c s ∗ owing c n) -∗ wpc c (k ⟨⟩) Q)
          -∗ wpc c (.op (.waitDma2 s srcw dstw hsrc hdst) k) Q) := by
  unfold owing expects spent
  iintro ⟨#HR, ⟨Ha, Hc⟩, ⟨%W, HO⟩⟩ Hk
  iapply (Rounds.wp_wait_rest_token 𝒱₀ ER (Rd m) (c : Thread nD τ) none (κ := K (c, kix hs)) (sm := .dma s) (k' := N)
      (by rw [← hN]; exact wpE_waitDma2_eq 𝒱₀ (c : Thread nD τ) none Set.univ) (Set.mem_univ _) () (O := rem c n) (W := W) (R := 0) (m := 0) (T := ∅)
      (by rw [Nat.zero_add, expect_dma m c hs])) $$ [Hc HO Ha]
  · isplitr; · iapply (inv_at m K (c, kix hs)); iexact HR
    isplitl [Hc]; · iexact Hc
    isplitl [HO]; · iexact HO
    isplitr; · iapply (mayWait_at m K c (.dma s) n h); iexact HR
    iexact Ha
  iintro ⟨HO, Ha, -, Hp⟩
  ihave Hp := ((Entails.of_eq (rest_dma m c hs)).trans hP) $$ Hp
  imod (Rounds.cell_close ER (Rd m) (Set.mem_univ (K (c, kix hs))) (fun h => h) (R := 0 + 1) (duties_later m (dcell c s))) $$ [Ha] with Hz
  · isplitr; · iapply (inv_at m K (c, kix hs)); iexact HR
    iexact Ha
  iapply Hk
  isplitl [Hp]; · iexact Hp
  isplitl [Hz]; · iexact Hz
  iexists _; iexact HO

/-! ## Loads and the block computed -/

/-- A load of a half that is held. -/
theorem wp_loadHalf {c : Dev nD} {M : Memref sig .tc .vmem S256x1024 .f32} {o : Fin 2 → ℕ}
    {ho : ∀ a, o a + S128x1024.size a ≤ S256x1024.size a} {hl} (q : PosShare TreeShare) (f : Buf (Elt F) (M.view.loc (c : Thread nD τ)))
    {α : Type} {Q : α → sProp 𝕄} {k : (S128x1024.Idx → Elt F .f32) → Prog (TpuEff nD τ sig (Elt F) Λ₀ .tc) α} :
    held (M.slice (Rect.unit (s := S256x1024) o S128x1024.size ho) (fun _ => rfl)) c q f
      ⊢ iprop((held (M.slice (Rect.unit (s := S256x1024) o S128x1024.size ho) (fun _ => rfl)) c q f
            -∗ wpc c (k (M.view.readAt (Elt F) (Rect.unit (s := S256x1024) o S128x1024.size ho).toLoadRect f)) Q)
          -∗ wpc c (.op (.load M (Rect.unit (s := S256x1024) o S128x1024.size ho).toLoadRect hl) k) Q) := by
  unfold held
  exact wp_load 𝒱₀ (c : Thread nD τ) none Set.univ (m := M) (by
    rw [show (M.slice (Rect.unit (s := S256x1024) o S128x1024.size ho) (fun _ => rfl)).view.set = (Rect.unit (s := S256x1024) o S128x1024.size ho).set.map M.view.emb from View.set_slice _ _]
    exact Finset.Subset.refl _)

end Records

/-! ## The result, block by block -/

/-- Block `j` of the scratch result of device `c` with contents `f`; -/
def oAt (c : Dev nD) (j : Fin 8) (f : S1024x256.Idx → Elt F .f32) : sProp 𝕄 :=
  oM.view.loc (c : Thread nD τ) ↦[rset (row c j)]{fullShare} (f : Buf (Elt F) (oM.view.loc (c : Thread nD τ)))
/-- and of the result itself. -/
def yAt (c : Dev nD) (j : Fin 8) (f : S1024x256.Idx → Elt F .f32) : sProp 𝕄 :=
  yM.view.loc (c : Thread nD τ) ↦[rset (row c j)]{fullShare} (f : Buf (Elt F) (yM.view.loc (c : Thread nD τ)))

/-- What one copy of a block credits. -/
abbrev Nb : ℕ := (yM.slice (rowsAt ![0, 0] (by decide)) (fun _ => rfl)).view.dmaCredit
/-- A block copied pays a positive credit. -/
theorem Nb_pos : 0 < Nb := View.dmaCredit_pos _ (by decide)

/-- The semaphore of the copy of block `j`. -/
abbrev osm (j : Fin 8) : DmaSem sig := ⟨14 + j.val, by have : sig.nDmaSem = 22 := rfl; omega⟩

/-- Block `j` before it is computed: room in the scratch result and in the result, the semaphore at zero; -/
def blank (c : Dev nD) (j : Fin 8) : sProp 𝕄 :=
  iprop((∃ f, oAt c j f) ∗ (∃ f, yAt c j f) ∗ spent c (osm j))
/-- computed; -/
def computed (c : Dev nD) (j : Fin 8) : sProp 𝕄 :=
  iprop(oAt c j (fin m c) ∗ (∃ f, yAt c j f) ∗ spent c (osm j))
/-- on its way out; -/
def leaving (c : Dev nD) (j : Fin 8) : sProp 𝕄 :=
  Flight EC (c : Thread nD τ) (.dma (osm j)) () Nb iprop(yAt c j (fin m c) ∗ oAt c j (fin m c))
/-- in place. -/
def inPlace (c : Dev nD) (j : Fin 8) : sProp 𝕄 :=
  iprop((yAt c j (fin m c) ∗ oAt c j (fin m c)) ∗ spent c (osm j))

section Out

variable {c : Dev nD} (j : Fin 8) {off : Fin 2 → ℕ} (e : off = ![row c j, 0])
  {h : ∀ a, off a + S128x256.size a ≤ S1024x256.size a}

include e

/-- The rows a block's accesses name. -/
theorem rows_set : (rowsAt off h).set = rset (row c j) := by subst e; exact rowsAt_set h

/-- The load of the block about to be overwritten: its value plays no part. -/
theorem wp_peek {hl : (oM : Memref sig .tc .vmem S1024x256 .f32).view.LoadsAt (rowsAt off h).toLoadRect}
    {α : Type} {Q : α → sProp 𝕄} {k : (S128x256.Idx → Elt F .f32) → Prog (TpuEff nD τ sig (Elt F) Λ₀ .tc) α} :
    (blank c j : sProp 𝕄) ⊢ iprop((∀ v, blank c j -∗ wpc c (k v) Q) -∗ wpc c (.op (.load oM (rowsAt off h).toLoadRect hl) k) Q) := by
  have hsub : (oM : Memref sig .tc .vmem S1024x256 .f32).view.setOn (rowsAt off h).set ⊆ rset (row c j) := by
    rw [rows_set j e]; exact fun i hi => by obtain ⟨y, hy, rfl⟩ := Finset.mem_map.mp hi; exact hy
  unfold blank oAt
  iintro ⟨⟨%f, Ho⟩, Hy, Hz⟩ Hk
  iapply (wp_load 𝒱₀ (c : Thread nD τ) none Set.univ (m := oM) (S := rset (row c j)) hsub) $$ Ho
  iintro Ho
  iapply Hk
  isplitl [Ho]; · iexists f; iexact Ho
  isplitl [Hy]; · iexact Hy
  iexact Hz

/-- The store of the block's values. -/
theorem wp_put {w : S128x256.Idx → Elt F .f32} (hw : w = blk m c j) {h₁ h₂}
    {α : Type} {Q : α → sProp 𝕄} {k : PUnit → Prog (TpuEff nD τ sig (Elt F) Λ₀ .tc) α} :
    (blank c j : sProp 𝕄) ⊢ iprop((computed m c j -∗ wpc c (k ⟨⟩) Q)
      -∗ wpc c (.op (.store oM (rowsAt off h) w Finset.univ h₁ h₂) k) Q) := by
  have hset : ((oM : Memref sig .tc .vmem S1024x256 .f32).access (rowsAt off h)).set = rset (row c j) :=
    (View.set_slice_whole _ _).trans (rows_set j e)
  have hon := (View.setOn_univ ((oM : Memref sig .tc .vmem S1024x256 .f32).access (rowsAt off h))).trans hset
  unfold blank computed oAt
  iintro ⟨⟨%f, Ho⟩, Hy, Hz⟩ Hk
  iapply (wp_store 𝒱₀ (c : Thread nD τ) none Set.univ (m := oM) (r := rowsAt off h) (Mk := Finset.univ) (S := rset (row c j))
    hon.subset) $$ Ho
  iintro Ho
  iapply Hk
  isplitl [Ho]
  · have hc : ∀ i ∈ rset (row c j), ((oM : Memref sig .tc .vmem S1024x256 .f32).access (rowsAt off h)).write (Elt F) f w Finset.univ i = fin m c i := by
      intro i hi
      rw [← hset] at hi
      obtain ⟨y, -, rfl⟩ := Finset.mem_map.mp hi
      rw [View.write_emb_of_mem _ _ (Finset.mem_univ y), hw]
      exact (fin_emb m c j e h y).symm
    ihave Ho := (Entails.of_eq (pointsTo_congr hc)) $$ Ho
    iexact Ho
  isplitl [Hy]; · iexact Hy
  iexact Hz

/-- The copy of the block into the result is issued, -/
theorem wp_leave {hr : ∀ a, (rowsAt off h).stride a = 1} {hsrc hdst hsem}
    {α : Type} {Q : α → sProp 𝕄} {k : PUnit → Prog (TpuEff nD τ sig (Elt F) Λ₀ .tc) α} :
    (computed m c j : sProp 𝕄) ⊢ iprop((leaving m c j -∗ wpc c (k ⟨⟩) Q)
      -∗ wpc c (.op (.enqueueDma (oM.slice (rowsAt off h) hr) (.here (yM.slice (rowsAt off h) hr)) (.dma (osm j)) hsrc hdst hsem) k) Q) := by
  have hso : (oM.slice (rowsAt off h) hr).view.set = rset (row c j) :=
    (View.set_slice_whole _ _).trans (rows_set j e)
  have hsy : (yM.slice (rowsAt off h) hr).view.set = rset (row c j) :=
    (View.set_slice_whole _ _).trans (rows_set j e)
  unfold computed leaving oAt yAt spent
  iintro ⟨Ho, ⟨%g, Hy⟩, Hz⟩ Hk
  have hc : ∀ i ∈ rset (row c j), (yM.slice (rowsAt off h) hr).view.write (Elt F) g
      ((oM.slice (rowsAt off h) hr).view.read (Elt F) (fin m c)) Finset.univ i = fin m c i := by
    intro i hi
    rw [← hsy] at hi
    obtain ⟨y, -, rfl⟩ := Finset.mem_map.mp hi
    rw [View.write_emb_of_mem _ _ (Finset.mem_univ y)]
    rfl
  iapply (Transfers.wp_dmaLocal EC 𝒱₀ (c : Thread nD τ) none (src := oM.slice (rowsAt off h) hr) (dst := yM.slice (rowsAt off h) hr)
      (fs := fin m c) (fd := g) (q := fullShare) (Sd := rset (row c j)) () Nb rfl Nb_pos (by rw [hsy])) $$ [Ho Hy Hz]
  · rw [hso]
    isplitl [Ho]; · iexact Ho
    isplitl [Hy]; · iexact Hy
    iexact Hz
  iintro Hf
  iapply Hk
  rw [pointsTo_congr hc, ← hso]
  iexact Hf

omit e in
/-- and waited for. -/
theorem wp_arrive {s : DmaSem sig} (hs : s = osm j) {srcw : Memref sig .tc .vmem S128x256 .f32}
    {hr : ∀ a, (rowsAt off h).stride a = 1} {hsrc hdst}
    {α : Type} {Q : α → sProp 𝕄} {k : PUnit → Prog (TpuEff nD τ sig (Elt F) Λ₀ .tc) α} :
    iprop(leaving m c j ∗ owing c 0) ⊢ iprop(((inPlace m c j ∗ owing c 0) -∗ wpc c (k ⟨⟩) Q)
      -∗ wpc c (.op (.waitDma2 s srcw (yM.slice (rowsAt off h) hr) hsrc hdst) k) Q) := by
  have hN : (yM.slice (rowsAt off h) hr).view.dmaCredit = Nb := rfl
  subst hs
  unfold leaving owing inPlace spent
  iintro ⟨Hf, ⟨%W, HO⟩⟩ Hk
  iapply (Transfers.wp_waitLocal EC 𝒱₀ (c : Thread nD τ) none () hN (W := W)) $$ [Hf HO]
  · isplitl [Hf]; · iexact Hf
    iexact HO
  iintro ⟨HD, Hz, HO⟩
  iapply Hk
  isplitl [HD Hz]
  · isplitl [HD]; · iexact HD
    iexact Hz
  iexists _; iexact HO

end Out

/-! ## A block computed -/

/-- The staged weight columns of device `c`. -/
def wAt (c : Dev nD) : sProp 𝕄 := wM.view.loc (c : Thread nD τ) ↦{fullShare} (wb m c : Buf (Elt F) (wM.view.loc (c : Thread nD τ)))

/-- The staged `w`, held at its contents. -/
theorem wAt_intro (c : Dev nD) : (wM.view.loc (c : Thread nD τ) ↦{fullShare} (wb m c : Buf (Elt F) (wM.view.loc (c : Thread nD τ))) : sProp 𝕄) ⊢ wAt m c := by
  unfold wAt; exact .rfl
/-- The same, opened. -/
theorem wAt_elim (c : Dev nD) : wAt m c ⊢ (wM.view.loc (c : Thread nD τ) ↦{fullShare} (wb m c : Buf (Elt F) (wM.view.loc (c : Thread nD τ))) : sProp 𝕄) := by
  unfold wAt; exact .rfl

/-- Which rows a half of a buffer reads. -/
theorem read_top (M : Memref sig .tc .vmem S256x1024 .f32) (X : M.view.ty.Contents (Elt F)) :
    M.view.readAt (Elt F) rT.toLoadRect X = half 0 (M.view.read (Elt F) X) := funext fun y => congrArg (M.view.read (Elt F) X) (emb_top y)
/-- A load of the bottom half reads the bottom half. -/
theorem read_bot (M : Memref sig .tc .vmem S256x1024 .f32) (X : M.view.ty.Contents (Elt F)) :
    M.view.readAt (Elt F) rB.toLoadRect X = half 1 (M.view.read (Elt F) X) := funext fun y => congrArg (M.view.read (Elt F) X) (emb_bot y)

/-- All of the staged `w`. -/
abbrev rW : Rect S1024x256 := Rect.unit (s := S1024x256) ![0, 0] S1024x256.size inb_S1024x256_S1024x256_0_0

/-- The load of the weight columns. -/
theorem wp_loadW {c : Dev nD} {hl : (wM : Memref sig .tc .vmem S1024x256 .f32).view.LoadsAt rW.toLoadRect}
    {α : Type} {Q : α → sProp 𝕄} {k : (S1024x256.Idx → Elt F .f32) → Prog (TpuEff nD τ sig (Elt F) Λ₀ .tc) α} :
    (wAt m c : sProp 𝕄) ⊢ iprop((wAt m c -∗ wpc c (k (wb m c)) Q) -∗ wpc c (.op (.load wM rW.toLoadRect hl) k) Q) := by
  have hv : (wM : Memref sig .tc .vmem S1024x256 .f32).view.readAt (Elt F) rW.toLoadRect (wb m c) = wb m c :=
    Memref.readAt_unit_zero (Elt F) cc0_scratch1 (by funext a; fin_cases a <;> rfl) _ _
  have H : (wAt m c : sProp 𝕄) ⊢ iprop((wAt m c -∗ wpc c (k ((wM : Memref sig .tc .vmem S1024x256 .f32).view.readAt (Elt F) rW.toLoadRect (wb m c))) Q)
      -∗ wpc c (.op (.load wM rW.toLoadRect hl) k) Q) :=
    wp_load 𝒱₀ (c : Thread nD τ) none Set.univ (m := wM) (Finset.subset_univ _)
  rw [hv] at H
  exact H

/-- From a half of a buffer and the weight columns: the two loads, the load of the block about to be overwritten and the store of
    the block computed from them. -/
theorem wp_block {c : Dev nD} (j : Fin 8) {off : Fin 2 → ℕ} (e : off = ![row c j, 0])
    {h : ∀ a, off a + S128x256.size a ≤ S1024x256.size a} {M : Memref sig .tc .vmem S256x1024 .f32} {o : Fin 2 → ℕ}
    {ho : ∀ a, o a + S128x1024.size a ≤ S256x1024.size a} {hl hl' hl''} (q : PosShare TreeShare) (f : Buf (Elt F) (M.view.loc (c : Thread nD τ)))
    {p : (S128x1024.Idx → Elt F .f32) → (S1024x256.Idx → Elt F .f32) → S128x256.Idx → Elt F .f32}
    (hw : p (M.view.readAt (Elt F) (Rect.unit (s := S256x1024) o S128x1024.size ho).toLoadRect f) (wb m c) = blk m c j) {h₁ h₂}
    {α : Type} {Q : α → sProp 𝕄} {k : PUnit → Prog (TpuEff nD τ sig (Elt F) Λ₀ .tc) α} :
    iprop(held (M.slice (Rect.unit (s := S256x1024) o S128x1024.size ho) (fun _ => rfl)) c q f ∗ wAt m c ∗ blank c j)
      ⊢ iprop(((held (M.slice (Rect.unit (s := S256x1024) o S128x1024.size ho) (fun _ => rfl)) c q f ∗ wAt m c ∗ computed m c j) -∗ wpc c (k ⟨⟩) Q)
          -∗ wpc c (.op (.load M (Rect.unit (s := S256x1024) o S128x1024.size ho).toLoadRect hl) fun v => .op (.load wM rW.toLoadRect hl') fun w =>
              .op (.load oM (rowsAt off h).toLoadRect hl'') fun _ => .op (.store oM (rowsAt off h) (p v w) Finset.univ h₁ h₂) k) Q) := by
  iintro ⟨Hv, Hw, Hb⟩ Hk
  iapply (wp_loadHalf q f) $$ Hv
  iintro Hv
  iapply (wp_loadW m) $$ Hw
  iintro Hw
  iapply (wp_peek j e) $$ Hb
  iintro %_ Hb
  iapply (wp_put m j e hw) $$ Hb
  iintro Hb
  iapply Hk
  isplitl [Hv]; · iexact Hv
  isplitl [Hw]; · iexact Hw
  iexact Hb

/-- What a block is computed from. -/
theorem blk_of {c d : Dev nD} {j : Fin 8} (hd : own c j = d) {a : S128x1024.Idx → Elt F .f32} (ha : a = half (hf j) (xb m d)) :
    k0_pay1 a (wb m c) = blk m c j := by
  subst hd ha; unfold blk; rfl

end Cert.RingProof
-- ==== Proof.Stages.lean ====
/-
# The barrier and the copies into the staging buffers

The steps before the ring starts: the two operands copied into local memory, the signals to the two neighbours, which
hand them the landing buffers they write, and the wait for the neighbours' own.
-/
module

public import proofs.«01_k».proof.Proof.Steps

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : (ℓ : Loc nD τ sig) → Buf (Elt F) ℓ)

/-! ## The barrier -/

variable (K : Dev nD × Fin 13 → ℕ)

/-- The right to signal device `n`'s barrier as its neighbour `b`; -/
def bell (n : Dev nD) (b : Bool) : sProp 𝕄 := dutyTok ER (bcell n) 0 b
/-- and the right to wait at one's own barrier for both neighbours. -/
def gate (c : Dev nD) : sProp 𝕄 := iprop(atPos ER (bcell c) 0 ∅ 0 ∗ cred (tallyAt (bcell c) () 2))

/-- The signal to a neighbour's barrier hands over the landing buffers that the neighbour writes. -/
theorem wp_ring {c n n' : Dev nD} (hn : n' = n) (b : Bool) (l : ℕ) (hl : 6 ≤ l) (hd : debt c l = bcell n)
    {α : Type} {Q : α → sProp 𝕄} {k : PUnit → Prog (TpuEff nD τ sig (Elt F) Λ₀ .tc) α} {w : ℕ} (hw : w = 1) :
    iprop(records m K ∗ owing c (l + 1) ∗ bell n b ∗ bpay n b)
      ⊢ iprop((owing c l -∗ wpc c (k ⟨⟩) Q) -∗ wpc c (.op (.semSignal (Dev.tc n' : Thread nD τ) barS w) k) Q) := by
  subst hn hw
  unfold owing bell
  iintro ⟨#HR, ⟨%W, HO⟩, Ht, Hp⟩ Hk
  have hO : rem c (l + 1) = rem c l + tallyAt (bcell n') () 1 := by
    rw [rem, hd, due, if_neg (by omega)]
  iapply (Rounds.wp_signal 𝒱₀ ER (Rd m) (c : Thread nD τ) none (dst := (n' : Thread nD τ)) (κ := K (n', 0)) (d := b)
      (by rw [duties_bar]; exact Finset.mem_univ _) rfl () (rem c l) hO) $$ [HO Ht Hp]
  · isplitr; · iapply (inv_at m K (n', 0)); iexact HR
    isplitl [HO]; · iexact HO
    isplitl [Ht]; · iexact Ht
    isplitl [Hp]; · iapply (Entails.of_eq (show bpay n' b = (Rd m).payload (bcell n') 0 b from rfl)); iexact Hp
    iapply (reached_at m K (n', 0)); iexact HR
  iintro HO
  iapply Hk
  iexists W; iexact HO

/-- The wait for both neighbours hands over the landing buffers of both that this device writes. -/
theorem wp_gate {c : Dev nD} (n : ℕ) (h : ∀ k < n, 1 < slv (debt c k).2)
    {α : Type} {Q : α → sProp 𝕄} {k : PUnit → Prog (TpuEff nD τ sig (Elt F) Λ₀ .tc) α} {w : ℕ} (hw : w = 2) :
    iprop(records m K ∗ gate c ∗ owing c n)
      ⊢ iprop(((bpay c false ∗ bpay c true ∗ semVal (bcell c) 0 ∗ owing c n) -∗ wpc c (k ⟨⟩) Q)
          -∗ wpc c (.op (.semWait barS w) k) Q) := by
  subst hw
  unfold owing gate
  iintro ⟨#HR, ⟨Ha, Hc⟩, ⟨%W, HO⟩⟩ Hk
  iapply (Rounds.wp_wait_rest_token 𝒱₀ ER (Rd m) (c : Thread nD τ) none (κ := K (c, 0)) (sm := .reg barS)
      (wpE_semWait_eq 𝒱₀ (c : Thread nD τ) none Set.univ) (Set.mem_univ _) () (O := rem c n) (W := W) (R := 0) (m := 0) (T := ∅)
      (by rw [Nat.zero_add, expect_bar])) $$ [Hc HO Ha]
  · isplitr; · iapply (inv_at m K (c, 0)); iexact HR
    isplitl [Hc]; · iexact Hc
    isplitl [HO]; · iexact HO
    isplitr; · iapply (mayWait_at m K c (.reg barS) n h); iexact HR
    iexact Ha
  iintro ⟨HO, Ha, -, Hp⟩
  ihave Hp := (Entails.of_eq (rest_bar m c)) $$ Hp
  icases Hp with ⟨Hf, Ht⟩
  imod (Rounds.cell_close ER (Rd m) (Set.mem_univ (K (c, 0))) (fun h => h) (R := 0 + 1) (duties_later m (bcell c))) $$ [Ha] with Hz
  · isplitr; · iapply (inv_at m K (c, 0)); iexact HR
    iexact Ha
  iapply Hk
  isplitl [Hf]; · iexact Hf
  isplitl [Ht]; · iexact Ht
  isplitl [Hz]; · iexact Hz
  iexists _; iexact HO

/-! ## The staging copies -/

section Stage

variable {c : Dev nD} {s : Shape} {e : EltTy} {sp sp' : Space} (src : Memref sig .tc sp s e) (dst : Memref sig .tc sp' s e)

/-- The operand and its room before the copy; -/
def unstaged (c : Dev nD) (sm : DmaSem sig) (fs : Buf (Elt F) (src.view.loc (c : Thread nD τ))) : sProp 𝕄 :=
  iprop((src.view.loc (c : Thread nD τ) ↦{fullShare} fs) ∗ (∃ g, dst.view.loc (c : Thread nD τ) ↦{fullShare} g) ∗ spent c sm)
/-- while it is being copied; -/
def staging (c : Dev nD) (sm : DmaSem sig) (fs : Buf (Elt F) (src.view.loc (c : Thread nD τ))) (f' : Buf (Elt F) (dst.view.loc (c : Thread nD τ))) : sProp 𝕄 :=
  Flight EC (c : Thread nD τ) (.dma sm) () dst.view.dmaCredit iprop((dst.view.loc (c : Thread nD τ) ↦{fullShare} f') ∗ (src.view.loc (c : Thread nD τ) ↦{fullShare} fs))

/-- The copy of an operand into its staging buffer is issued, -/
theorem wp_stage {sm : DmaSem sig} {fs : Buf (Elt F) (src.view.loc (c : Thread nD τ))} (f' : Buf (Elt F) (dst.view.loc (c : Thread nD τ)))
    (hs : src.view.set = Finset.univ) (hN : 0 < dst.view.dmaCredit)
    (hw : ∀ g, dst.view.write (Elt F) g (src.view.read (Elt F) fs) Finset.univ = f') {hsrc hdst hsem}
    {α : Type} {Q : α → sProp 𝕄} {k : PUnit → Prog (TpuEff nD τ sig (Elt F) Λ₀ .tc) α} :
    (unstaged src dst c sm fs : sProp 𝕄)
      ⊢ iprop((staging src dst c sm fs f' -∗ wpc c (k ⟨⟩) Q)
          -∗ wpc c (.op (.enqueueDma src (.here dst) (.dma sm) hsrc hdst hsem) k) Q) := by
  unfold unstaged staging spent
  iintro ⟨Hs, ⟨%g, Hd⟩, Hz⟩ Hk
  iapply (Transfers.wp_dmaLocal EC 𝒱₀ (c : Thread nD τ) none (src := src) (dst := dst)
      (fs := fs) (fd := g) (q := fullShare) (Sd := Finset.univ) () dst.view.dmaCredit rfl hN (Finset.subset_univ _)) $$ [Hs Hd Hz]
  · rw [hs]
    isplitl [Hs]; · iexact Hs
    isplitl [Hd]; · iexact Hd
    iexact Hz
  iintro Hf
  iapply Hk
  rw [show dst.view.write (Elt F) g (ReadAs.same.apply (src.view.read (Elt F) fs)) Finset.univ = f' from hw g, hs]
  iexact Hf

/-- and waited for. -/
theorem wp_staged {sm : DmaSem sig} {fs : Buf (Elt F) (src.view.loc (c : Thread nD τ))} {f' : Buf (Elt F) (dst.view.loc (c : Thread nD τ))}
    (n : ℕ) (h : ∀ k < n, slv (.dma sm) < slv (debt c k).2) {hsrc hdst}
    {α : Type} {Q : α → sProp 𝕄} {k : PUnit → Prog (TpuEff nD τ sig (Elt F) Λ₀ .tc) α} :
    iprop(records m K ∗ staging src dst c sm fs f' ∗ owing c n)
      ⊢ iprop((((dst.view.loc (c : Thread nD τ) ↦{fullShare} f') ∗ (src.view.loc (c : Thread nD τ) ↦{fullShare} fs) ∗ spent c sm ∗ owing c n) -∗ wpc c (k ⟨⟩) Q)
          -∗ wpc c (.op (.waitDma2 sm src dst hsrc hdst) k) Q) := by
  unfold staging owing spent
  iintro ⟨#HR, Hf, ⟨%W, HO⟩⟩ Hk
  iapply (Transfers.wp_waitLocalO EC 𝒱₀ (c : Thread nD τ) none () rfl (O := rem c n) (W := W)) $$ [Hf HO]
  · isplitl [Hf]; · iexact Hf
    isplitl [HO]; · iexact HO
    iapply (mayWait_at m K c (.dma sm) n h); iexact HR
  iintro ⟨⟨Hd, Hs⟩, Hz, HO⟩
  iapply Hk
  isplitl [Hd]; · iexact Hd
  isplitl [Hs]; · iexact Hs
  isplitl [Hz]; · iexact Hz
  iexists _; iexact HO

end Stage

end Cert.RingProof
-- ==== Proof.Opening.lean ====
/-
# The opening: staging, the barrier, the first copies

Parts 2 and 3 of the kernel's body: the operands staged, the barrier passed, the four halves sent to the neighbours and
the device's own first block computed.
-/
module

public import proofs.«01_k».proof.Proof.Stages

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : (ℓ : Loc nD τ sig) → Buf (Elt F) ℓ)

variable (K : Dev nD × Fin 13 → ℕ)

/-- The two operands and what is staged of them. -/
abbrev aX : Memref sig .tc .hbm S256x1024 .f32 := Memref.whole main_arg0
/-- The operand `w`, in its own memory. -/
abbrev aW : Memref sig .tc .hbm S1024x256 .f32 := Memref.whole main_arg1

/-- The level awaited is below the levels of the debts that remain. -/
theorem below (c : Dev nD) (n v : ℕ) (h : ∀ k < n, v < slv (debt 0 k).2) : ∀ k < n, v < slv (debt c k).2 := by
  intro k hk
  have := h k hk
  rwa [show (debt c k).2 = (debt 0 k).2 from by unfold debt; split <;> rfl]

/-- What lands at a neighbour is the sender's. -/
theorem landed_nxt (V : Memref sig .tc .vmem S128x1024 .f32) (c : Dev nD) {f : Dev nD → Buf (Elt F) (V.view.loc ((nxt c : Dev nD) : Thread nD τ))} :
    (held V (nxt c) fullShare (f c) : sProp 𝕄) ⊢ held V (nxt c) fullShare (f (prv (nxt c))) := Entails.of_eq (by rw [prv_nxt])
/-- A half landed from the device before, with its contents named from this device. -/
theorem landed_prv (V : Memref sig .tc .vmem S128x1024 .f32) (c : Dev nD) {f : Dev nD → Buf (Elt F) (V.view.loc ((prv c : Dev nD) : Thread nD τ))} :
    (held V (prv c) fullShare (f c) : sProp 𝕄) ⊢ held V (prv c) fullShare (f (nxt (prv c))) := Entails.of_eq (by rw [nxt_prv])

/-- Where the rows of each block begin, as the body computes it. -/
theorem off1_own (c : Dev nD) : k0_off1 c 0#32 = ![row c 0, 0] := by revert c; decide +kernel
theorem off1_own' (c : Dev nD) : k0_off1 c 128#32 = ![row c 1, 0] := by revert c; decide +kernel
theorem off2_own (c : Dev nD) : k0_off2 c 0#32 = ![row c 0, 0] := by revert c; decide +kernel
theorem off2_own' (c : Dev nD) : k0_off2 c 128#32 = ![row c 1, 0] := by revert c; decide +kernel
theorem off3_prv (c : Dev nD) : k0_off3 c 0#32 = ![row c 2, 0] := by revert c; decide +kernel
theorem off3_prv' (c : Dev nD) : k0_off3 c 128#32 = ![row c 4, 0] := by revert c; decide +kernel
theorem off4_prv (c : Dev nD) : k0_off4 c 0#32 = ![row c 2, 0] := by revert c; decide +kernel
theorem off4_prv' (c : Dev nD) : k0_off4 c 128#32 = ![row c 4, 0] := by revert c; decide +kernel
theorem off5_nxt (c : Dev nD) : k0_off5 c 1#32 0#32 = ![row c 5, 0] := by revert c; decide +kernel
theorem off5_nxt' (c : Dev nD) : k0_off5 c 1#32 128#32 = ![row c 3, 0] := by revert c; decide +kernel
theorem off5_opp (c : Dev nD) : k0_off5 c 2#32 0#32 = ![row c 6, 0] := by revert c; decide +kernel
theorem off5_opp' (c : Dev nD) : k0_off5 c 2#32 128#32 = ![row c 7, 0] := by revert c; decide +kernel
theorem off6_nxt (c : Dev nD) : k0_off6 c 1#32 0#32 = ![row c 5, 0] := by revert c; decide +kernel
theorem off6_nxt' (c : Dev nD) : k0_off6 c 1#32 128#32 = ![row c 3, 0] := by revert c; decide +kernel
theorem off6_opp (c : Dev nD) : k0_off6 c 2#32 0#32 = ![row c 6, 0] := by revert c; decide +kernel
theorem off6_opp' (c : Dev nD) : k0_off6 c 2#32 128#32 = ![row c 7, 0] := by revert c; decide +kernel

/-- A part of the body, of the buffers and semaphores it is called with. -/
abbrev onRefs {β : Type 1} (f : (arg0 : Memref sig .tc .hbm S256x1024 .f32) → arg0.IsWhole → (arg1 : Memref sig .tc .hbm S1024x256 .f32) → arg1.IsWhole
    → (arg2 : Memref sig .tc .hbm S1024x256 .f32) → arg2.IsWhole → (arg3 : Memref sig .tc .vmem S256x1024 .f32) → arg3.IsWhole
    → (arg4 : Memref sig .tc .vmem S1024x256 .f32) → arg4.IsWhole → (arg5 : Memref sig .tc .vmem S1024x256 .f32) → arg5.IsWhole
    → (arg6 : Memref sig .tc .vmem S256x1024 .f32) → arg6.IsWhole → (arg7 : Memref sig .tc .vmem S256x1024 .f32) → arg7.IsWhole
    → (arg8 : Memref sig .tc .vmem S256x1024 .f32) → arg8.IsWhole → DmaSems sig S6 → DmaSems sig S6 → DmaSems sig S2 → DmaSems sig S8 → β) : β :=
  f aX (Memref.isWhole_whole _) aW (Memref.isWhole_whole _) yM (Memref.isWhole_whole _) xM (Memref.isWhole_whole _) wM (Memref.isWhole_whole _)
    oM (Memref.isWhole_whole _) lM (Memref.isWhole_whole _) gM (Memref.isWhole_whole _) pM (Memref.isWhole_whole _)
    cc0_scratch6 cc0_scratch7 cc0_scratch8 cc0_scratch9

/-- Part 2: what it takes and what it hands on. -/
theorem wp_part2 (c : Dev nD) (v13 v24 : BitVec 32) {Q : PUnit → sProp 𝕄} :
    iprop(records m K ∗ unstaged aX xM c 12 (xb m c) ∗ unstaged aW wM c 13 (wb m c) ∗ owing c 8
        ∗ bell (prv c) true ∗ bpay (prv c) true ∗ bell (nxt c) false ∗ bpay (nxt c) false ∗ gate c ∗ idle c 0 ∗ tok (nxt c) 6)
      ⊢ iprop(((aX.view.loc (c : Thread nD τ) ↦{fullShare} (xb m c : Buf (Elt F) (aX.view.loc (c : Thread nD τ))))
              ∗ spent c 12 ∗ staging aW wM c 13 (wb m c) (wb m c)
              ∗ (held (top xM) c q₁ (xb m c) ∗ held (top xM) c q₂ (xb m c))
              ∗ (held (bot xM) c q₀ (xb m c) ∗ held (bot xM) c q₁ (xb m c) ∗ held (bot xM) c q₂ (xb m c))
              ∗ owing c 5 ∗ semVal (bcell c) 0 ∗ expects c 0
              ∗ (room (bot lM) (nxt c) ∗ room (top pM) (nxt c))
              ∗ (room (top gM) (prv c) ∗ room (bot gM) (prv c) ∗ room (bot pM) (prv c)) -∗ Q ⟨⟩)
          -∗ wpc c (onRefs k0_part2 c v13 v24) Q) := by
  unfold onRefs
  rw [k0_part2_eq_skeleton]
  unfold k0_part2_skel
  simp only [semSignalWord, semWaitWord, Prog.lift, Prog.bind_op, Prog.bind_ret, Prog.pure_eq_ret]
  iintro ⟨#HR, Hx, Hw, HO, Hb1, Hp1, Hb2, Hp2, Hg, Hi, Ht⟩ Hk
  iapply (wp_stage aX xM (sm := 12) (fs := xb m c) (xb m c) (View.set_whole _) (View.dmaCredit_pos _ (by decide)) (fun g => View.write_whole_univ _ _ _)) $$ Hx
  iintro Hx
  iapply (wp_stage aW wM (sm := 13) (fs := wb m c) (wb m c) (View.set_whole _) (View.dmaCredit_pos _ (by decide)) (fun g => View.write_whole_univ _ _ _)) $$ Hw
  iintro Hw
  iapply (wp_ring m K (dev1_eq c) true 7 (by decide) rfl rfl) $$ [HO Hb1 Hp1]
  · isplitr; · iexact HR
    isplitl [HO]; · iexact HO
    isplitl [Hb1] <;> iassumption
  iintro HO
  iapply (wp_ring m K (dev2_eq c) false 6 (by decide) rfl rfl) $$ [HO Hb2 Hp2]
  · isplitr; · iexact HR
    isplitl [HO]; · iexact HO
    isplitl [Hb2] <;> iassumption
  iintro HO
  iapply (wp_gate m K 6 (below c 6 1 (by decide)) rfl) $$ [HO Hg]
  · isplitr; · iexact HR
    isplitl [Hg] <;> iassumption
  iintro ⟨Hl, Hr, Hz, HO⟩
  ihave Hl := (show bpay c false ⊢ iprop(room (top gM) (prv c) ∗ room (bot gM) (prv c) ∗ room (bot pM) (prv c)) from .rfl) $$ Hl
  ihave Hr := (show bpay c true ⊢ iprop(room (top lM) (nxt c) ∗ room (bot lM) (nxt c) ∗ room (top pM) (nxt c)) from .rfl) $$ Hr
  icases Hl with ⟨Hgt, Hgb, Hpb⟩
  icases Hr with ⟨Hlt, Hlb, Hpt⟩
  iapply (wp_staged m K aX xM (sm := 12) 6 (below c 6 0 (by decide))) $$ [HO Hx]
  · isplitr; · iexact HR
    isplitl [Hx] <;> iassumption
  iintro ⟨Hx, HaX, Hz12, HO⟩
  ihave Hx := (halves_whole xM (View.set_whole _) c fullShare (xb m c)).1 $$ Hx
  icases Hx with ⟨Hxt, Hxb⟩
  ihave Hxt := (held_thirds (top xM) c (xb m c)).1 $$ Hxt
  icases Hxt with ⟨Ht0, Ht1, Ht2⟩
  ihave Hxb := (held_thirds (bot xM) c (xb m c)).1 $$ Hxb
  icases Hxb with ⟨Hb0, Hb1, Hb2⟩
  iapply (wp_copyTo m K (dev3_eq c) (sS := 0) (sR := 6) (by decide) (by decide) 5 (by decide) rfl (src := top xM) (dst := top lM)
      (fs := xb m c) (xb m c) rfl .rfl (landed_nxt (top lM) c (f := xb m)) rfl) $$ [HO Ht0 Hlt Hi Ht]
  · isplitr; · iexact HR
    isplitl [Ht0]; · iexact Ht0
    isplitl [Hlt]; · iexact Hlt
    isplitl [HO]; · iexact HO
    isplitl [Hi] <;> iassumption
  iintro ⟨He, HO⟩
  iapply wp_done
  iapply Hk
  isplitl [HaX]; · iexact HaX
  isplitl [Hz12]; · iexact Hz12
  isplitl [Hw]; · iexact Hw
  isplitl [Ht1 Ht2]
  · isplitl [Ht1] <;> iassumption
  isplitl [Hb0 Hb1 Hb2]
  · isplitl [Hb0]; · iexact Hb0
    isplitl [Hb1] <;> iassumption
  isplitl [HO]; · iexact HO
  isplitl [Hz]; · iexact Hz
  isplitl [He]; · iexact He
  isplitl [Hlb Hpt]
  · isplitl [Hlb] <;> iassumption
  isplitl [Hgt]; · iexact Hgt
  isplitl [Hgb] <;> iassumption

/-- Part 3: what it takes and what it hands on. -/
theorem wp_part3 (c : Dev nD) (v2 v13 v24 : BitVec 32) {Q : PUnit → sProp 𝕄} :
    iprop(records m K ∗ staging aW wM c 13 (wb m c) (wb m c)
        ∗ (held (top xM) c q₁ (xb m c) ∗ held (top xM) c q₂ (xb m c))
        ∗ (held (bot xM) c q₀ (xb m c) ∗ held (bot xM) c q₁ (xb m c))
        ∗ owing c 5 ∗ (room (bot lM) (nxt c) ∗ room (top gM) (prv c) ∗ room (bot gM) (prv c))
        ∗ (idle c 1 ∗ idle c 2 ∗ idle c 3) ∗ (tok (nxt c) 7 ∗ tok (prv c) 8 ∗ tok (prv c) 9) ∗ blank c 0)
      ⊢ iprop(((aW.view.loc (c : Thread nD τ) ↦{fullShare} (wb m c : Buf (Elt F) (aW.view.loc (c : Thread nD τ))))
              ∗ spent c 13 ∗ wAt m c ∗ held (top xM) c q₂ (xb m c)
              ∗ owing c 2 ∗ (expects c 1 ∗ expects c 2 ∗ expects c 3) ∗ computed m c 0 -∗ Q ⟨⟩)
          -∗ wpc c (onRefs k0_part3 c v2 v13 v24) Q) := by
  unfold onRefs
  rw [k0_part3_eq_skeleton]
  unfold k0_part3_skel
  simp only [Prog.lift, Prog.bind_op, Prog.bind_ret, Prog.pure_eq_ret]
  iintro ⟨#HR, Hw, ⟨Ht1, Ht2⟩, ⟨Hb0, Hb1⟩, HO, ⟨Hlb, Hgt, Hgb⟩, ⟨Hi1, Hi2, Hi3⟩, ⟨Hk7, Hk8, Hk9⟩, Hbl⟩ Hk
  iapply (wp_copyTo m K (dev4_eq c) (sS := 2) (sR := 8) (by decide) (by decide) 4 (by decide) rfl (src := bot xM) (dst := bot gM)
      (fs := xb m c) (xb m c) rfl .rfl (landed_prv (bot gM) c (f := xb m)) rfl) $$ [HO Hb1 Hgb Hi2 Hk8]
  · isplitr; · iexact HR
    isplitl [Hb1]; · iexact Hb1
    isplitl [Hgb]; · iexact Hgb
    isplitl [HO]; · iexact HO
    isplitl [Hi2] <;> iassumption
  iintro ⟨He2, HO⟩
  iapply (wp_copyTo m K (dev5_eq c) (sS := 1) (sR := 7) (by decide) (by decide) 3 (by decide) rfl (src := bot xM) (dst := bot lM)
      (fs := xb m c) (xb m c) rfl .rfl (landed_nxt (bot lM) c (f := xb m)) rfl) $$ [HO Hb0 Hlb Hi1 Hk7]
  · isplitr; · iexact HR
    isplitl [Hb0]; · iexact Hb0
    isplitl [Hlb]; · iexact Hlb
    isplitl [HO]; · iexact HO
    isplitl [Hi1] <;> iassumption
  iintro ⟨He1, HO⟩
  iapply (wp_copyTo m K (dev6_eq c) (sS := 3) (sR := 9) (by decide) (by decide) 2 (by decide) rfl (src := top xM) (dst := top gM)
      (fs := xb m c) (xb m c) rfl .rfl (landed_prv (top gM) c (f := xb m)) rfl) $$ [HO Ht1 Hgt Hi3 Hk9]
  · isplitr; · iexact HR
    isplitl [Ht1]; · iexact Ht1
    isplitl [Hgt]; · iexact Hgt
    isplitl [HO]; · iexact HO
    isplitl [Hi3] <;> iassumption
  iintro ⟨He3, HO⟩
  iapply (wp_staged m K aW wM (sm := 13) 2 (below c 2 0 (by decide))) $$ [HO Hw]
  · isplitr; · iexact HR
    isplitl [Hw] <;> iassumption
  iintro ⟨Hw, HaW, Hz13, HO⟩
  ihave Hw := (wAt_intro m c) $$ Hw
  iapply (wp_block m 0 (off1_own c) q₂ (xb m c) (blk_of m rfl (read_top xM _))) $$ [Ht2 Hw Hbl]
  · isplitl [Ht2]; · iexact Ht2
    isplitl [Hw]; · iexact Hw
    iexact Hbl
  iintro ⟨Ht2, Hw, Hc⟩
  iapply wp_done
  iapply Hk
  isplitl [HaW]; · iexact HaW
  isplitl [Hz13]; · iexact Hz13
  isplitl [Hw]; · iexact Hw
  isplitl [Ht2]; · iexact Ht2
  isplitl [HO]; · iexact HO
  isplitl [He1 He2 He3]
  · isplitl [He1]; · iexact He1
    isplitl [He2] <;> iassumption
  iexact Hc

end Cert.RingProof
-- ==== Proof.Middle.lean ====
/-
# The middle: blocks computed as their halves arrive

Parts 4 to 8 of the kernel's body: each half waited for, two of them forwarded to the device across the ring, the block
of each computed and its copy into the result issued.
-/
module

public import proofs.«01_k».proof.Proof.Opening

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : (ℓ : Loc nD τ sig) → Buf (Elt F) ℓ)

variable (K : Dev nD × Fin 13 → ℕ)

/-- Part 4: the second own block, and the first half of the previous device's rows waited for. -/
theorem wp_part4 (c : Dev nD) (v2 v24 : BitVec 32) {Q : PUnit → sProp 𝕄} :
    iprop(records m K ∗ computed m c 0 ∗ held (bot xM) c q₂ (xb m c) ∗ wAt m c ∗ blank c 1 ∗ expects c 6 ∗ owing c 2)
      ⊢ iprop((leaving m c 0 ∗ held (bot xM) c q₂ (xb m c) ∗ wAt m c ∗ leaving m c 1
              ∗ held (top lM) c fullShare (xb m (prv c)) ∗ spent c 6 ∗ owing c 2 -∗ Q ⟨⟩)
          -∗ wpc c (onRefs k0_part4 c v2 v24) Q) := by
  unfold onRefs
  rw [k0_part4_eq_skeleton]
  unfold k0_part4_skel
  simp only [Prog.lift, Prog.bind_op, Prog.bind_ret, Prog.pure_eq_ret]
  iintro ⟨#HR, Hc0, Hx, Hw, Hb1, He, HO⟩ Hk
  iapply (wp_leave m 0 (off2_own c)) $$ Hc0
  iintro Hl0
  iapply (wp_block m 1 (off1_own' c) q₂ (xb m c) (blk_of m rfl (read_bot xM _))) $$ [Hx Hw Hb1]
  · isplitl [Hx]; · iexact Hx
    isplitl [Hw]; · iexact Hw
    iexact Hb1
  iintro ⟨Hx, Hw, Hc1⟩
  iapply (wp_leave m 1 (off2_own' c)) $$ Hc1
  iintro Hl1
  iapply (wp_await m K (s := 6) (dstw := top lM) (by decide) 2 (below c 2 2 (by decide)) rfl
      (P := held (top lM) c fullShare (xb m (prv c))) .rfl) $$ [He HO]
  · isplitr; · iexact HR
    isplitl [He]; · iexact He
    iexact HO
  iintro ⟨Hp, Hz, HO⟩
  iapply wp_done
  iapply Hk
  isplitl [Hl0]; · iexact Hl0
  isplitl [Hx]; · iexact Hx
  isplitl [Hw]; · iexact Hw
  isplitl [Hl1]; · iexact Hl1
  isplitl [Hp]; · iexact Hp
  isplitl [Hz]; · iexact Hz
  iexact HO

/-- Part 5: that half forwarded and its block computed; the first half of the next device's rows waited for. -/
theorem wp_part5 (c : Dev nD) (v13 : BitVec 32) {Q : PUnit → sProp 𝕄} :
    iprop(records m K ∗ held (top lM) c fullShare (xb m (prv c)) ∗ room (top pM) (nxt c) ∗ owing c 2 ∗ idle c 4 ∗ tok (nxt c) 10
        ∗ wAt m c ∗ blank c 2 ∗ expects c 8)
      ⊢ iprop((expects c 4 ∗ held (top lM) c fullShare.right (xb m (prv c)) ∗ wAt m c ∗ leaving m c 2
              ∗ held (bot gM) c fullShare (xb m (nxt c)) ∗ spent c 8 ∗ owing c 1 -∗ Q ⟨⟩)
          -∗ wpc c (onRefs k0_part5 c v13) Q) := by
  unfold onRefs
  rw [k0_part5_eq_skeleton]
  unfold k0_part5_skel
  simp only [Prog.lift, Prog.bind_op, Prog.bind_ret, Prog.pure_eq_ret]
  iintro ⟨#HR, Hl, Hr, HO, Hi, Ht, Hw, Hb, He8⟩ Hk
  ihave Hl := (held_halves (top lM) c (xb m (prv c))).1 $$ Hl
  icases Hl with ⟨Hl0, Hl⟩
  iapply (wp_copyTo m K (dev7_eq c) (sS := 4) (sR := 10) (by decide) (by decide) 1 (by decide) rfl (src := top lM) (dst := top pM)
      (fs := xb m (prv c)) (xb m (prv c)) rfl .rfl (landed_nxt (top pM) c (f := fun d => xb m (prv d))) rfl) $$ [HO Hl0 Hr Hi Ht]
  · isplitr; · iexact HR
    isplitl [Hl0]; · iexact Hl0
    isplitl [Hr]; · iexact Hr
    isplitl [HO]; · iexact HO
    isplitl [Hi] <;> iassumption
  iintro ⟨He4, HO⟩
  iapply (wp_block m 2 (off3_prv c) fullShare.right (xb m (prv c)) (blk_of m rfl (read_top lM _))) $$ [Hl Hw Hb]
  · isplitl [Hl]; · iexact Hl
    isplitl [Hw]; · iexact Hw
    iexact Hb
  iintro ⟨Hl, Hw, Hc⟩
  iapply (wp_leave m 2 (off4_prv c)) $$ Hc
  iintro Hc
  iapply (wp_await m K (s := 8) (dstw := bot gM) (by decide) 1 (below c 1 2 (by decide)) rfl
      (P := held (bot gM) c fullShare (xb m (nxt c))) .rfl) $$ [He8 HO]
  · isplitr; · iexact HR
    isplitl [He8]; · iexact He8
    iexact HO
  iintro ⟨Hp, Hz, HO⟩
  iapply wp_done
  iapply Hk
  isplitl [He4]; · iexact He4
  isplitl [Hl]; · iexact Hl
  isplitl [Hw]; · iexact Hw
  isplitl [Hc]; · iexact Hc
  isplitl [Hp]; · iexact Hp
  isplitl [Hz]; · iexact Hz
  iexact HO

/-- Part 6: the same for the next device's half; the second half of the previous device's rows waited for and read. -/
theorem wp_part6 (c : Dev nD) (v24 : BitVec 32) {Q : (Σ' (v177 : FVec F S128x256 .f32), BitVec 32) → sProp 𝕄} :
    iprop(records m K ∗ held (bot gM) c fullShare (xb m (nxt c)) ∗ room (bot pM) (prv c) ∗ owing c 1 ∗ idle c 5 ∗ tok (prv c) 11
        ∗ wAt m c ∗ blank c 3 ∗ expects c 7)
      ⊢ iprop((expects c 5 ∗ held (bot gM) c fullShare.right (xb m (nxt c)) ∗ wAt m c ∗ leaving m c 3
              ∗ held (bot lM) c fullShare (xb m (prv c)) ∗ spent c 7 ∗ owing c 0
              -∗ Q ⟨k0_pay5 ((lM : Memref sig .tc .vmem S256x1024 .f32).view.readAt (Elt F) rB.toLoadRect (xb m (prv c))) (wb m c), 256#32⟩)
          -∗ wpc c (onRefs k0_part6 c v24) Q) := by
  unfold onRefs
  rw [k0_part6_eq_skeleton]
  unfold k0_part6_skel
  simp only [Prog.lift, Prog.bind_op, Prog.bind_ret, Prog.pure_eq_ret]
  iintro ⟨#HR, Hg, Hr, HO, Hi, Ht, Hw, Hb, He7⟩ Hk
  ihave Hg := (held_halves (bot gM) c (xb m (nxt c))).1 $$ Hg
  icases Hg with ⟨Hg0, Hg⟩
  iapply (wp_copyTo m K (dev8_eq c) (sS := 5) (sR := 11) (by decide) (by decide) 0 (by decide) rfl (src := bot gM) (dst := bot pM)
      (fs := xb m (nxt c)) (xb m (nxt c)) rfl .rfl (landed_prv (bot pM) c (f := fun d => xb m (nxt d))) rfl) $$ [HO Hg0 Hr Hi Ht]
  · isplitr; · iexact HR
    isplitl [Hg0]; · iexact Hg0
    isplitl [Hr]; · iexact Hr
    isplitl [HO]; · iexact HO
    isplitl [Hi] <;> iassumption
  iintro ⟨He5, HO⟩
  iapply (wp_block m 3 (off5_nxt' c) fullShare.right (xb m (nxt c)) (blk_of m rfl (read_bot gM _))) $$ [Hg Hw Hb]
  · isplitl [Hg]; · iexact Hg
    isplitl [Hw]; · iexact Hw
    iexact Hb
  iintro ⟨Hg, Hw, Hc⟩
  iapply (wp_leave m 3 (off6_nxt' c)) $$ Hc
  iintro Hc
  iapply (wp_await m K (s := 7) (dstw := bot lM) (by decide) 0 (fun k h => absurd h (Nat.not_lt_zero k)) rfl
      (P := held (bot lM) c fullShare (xb m (prv c))) .rfl) $$ [He7 HO]
  · isplitr; · iexact HR
    isplitl [He7]; · iexact He7
    iexact HO
  iintro ⟨Hp, Hz, HO⟩
  iapply (wp_loadHalf fullShare (xb m (prv c))) $$ Hp
  iintro Hp
  iapply (wp_loadW m) $$ Hw
  iintro Hw
  iapply wp_done
  iapply Hk
  isplitl [He5]; · iexact He5
  isplitl [Hg]; · iexact Hg
  isplitl [Hw]; · iexact Hw
  isplitl [Hc]; · iexact Hc
  isplitl [Hp]; · iexact Hp
  isplitl [Hz]; · iexact Hz
  iexact HO

/-- Part 7: the block of that half stored and sent out; the second half of the next device's rows waited for and its block
    computed. -/
theorem wp_part7 (c : Dev nD) (v13 v24 : BitVec 32) (v177 : FVec F S128x256 .f32) (w : BitVec 32) (hv : k0_pay6 v177 = blk m c 4)
    {Q : PUnit → sProp 𝕄} :
    iprop(records m K ∗ blank c 4 ∗ expects c 9 ∗ owing c 0 ∗ wAt m c ∗ blank c 5)
      ⊢ iprop((leaving m c 4 ∗ held (top gM) c fullShare (xb m (nxt c)) ∗ spent c 9 ∗ wAt m c ∗ computed m c 5 ∗ owing c 0 -∗ Q ⟨⟩)
          -∗ wpc c (onRefs k0_part7 c v13 v24 v177 w) Q) := by
  unfold onRefs
  rw [k0_part7_eq_skeleton]
  unfold k0_part7_skel
  simp only [Prog.lift, Prog.bind_op, Prog.bind_ret, Prog.pure_eq_ret]
  iintro ⟨#HR, Hb4, He, HO, Hw, Hb5⟩ Hk
  iapply (wp_peek 4 (off3_prv' c)) $$ Hb4
  iintro %_ Hb4
  iapply (wp_put m 4 (off3_prv' c) hv) $$ Hb4
  iintro Hb4
  iapply (wp_leave m 4 (off4_prv' c)) $$ Hb4
  iintro Hb4
  iapply (wp_await m K (s := 9) (dstw := top gM) (by decide) 0 (fun k h => absurd h (Nat.not_lt_zero k)) rfl
      (P := held (top gM) c fullShare (xb m (nxt c))) .rfl) $$ [He HO]
  · isplitr; · iexact HR
    isplitl [He]; · iexact He
    iexact HO
  iintro ⟨Hp, Hz, HO⟩
  iapply (wp_block m 5 (off5_nxt c) fullShare (xb m (nxt c)) (blk_of m rfl (read_top gM _))) $$ [Hp Hw Hb5]
  · isplitl [Hp]; · iexact Hp
    isplitl [Hw]; · iexact Hw
    iexact Hb5
  iintro ⟨Hp, Hw, Hc⟩
  iapply wp_done
  iapply Hk
  isplitl [Hb4]; · iexact Hb4
  isplitl [Hp]; · iexact Hp
  isplitl [Hz]; · iexact Hz
  isplitl [Hw]; · iexact Hw
  isplitl [Hc]; · iexact Hc
  iexact HO

/-- Part 8: the first half of the rows from across the ring waited for and its block computed, then the second half waited for. -/
theorem wp_part8 (c : Dev nD) (v13 v24 v35 : BitVec 32) {Q : PUnit → sProp 𝕄} :
    iprop(records m K ∗ computed m c 5 ∗ expects c 10 ∗ owing c 0 ∗ wAt m c ∗ blank c 6 ∗ expects c 11)
      ⊢ iprop((leaving m c 5 ∗ held (top pM) c fullShare (xb m (prv (prv c))) ∗ spent c 10 ∗ wAt m c ∗ leaving m c 6
              ∗ held (bot pM) c fullShare (xb m (nxt (nxt c))) ∗ spent c 11 ∗ owing c 0 -∗ Q ⟨⟩)
          -∗ wpc c (onRefs k0_part8 c v13 v24 v35) Q) := by
  unfold onRefs
  rw [k0_part8_eq_skeleton]
  unfold k0_part8_skel
  simp only [Prog.lift, Prog.bind_op, Prog.bind_ret, Prog.pure_eq_ret]
  iintro ⟨#HR, Hc5, He, HO, Hw, Hb6, He'⟩ Hk
  iapply (wp_leave m 5 (off6_nxt c)) $$ Hc5
  iintro Hc5
  iapply (wp_await m K (s := 10) (dstw := top pM) (by decide) 0 (fun k h => absurd h (Nat.not_lt_zero k)) rfl
      (P := held (top pM) c fullShare (xb m (prv (prv c)))) .rfl) $$ [He HO]
  · isplitr; · iexact HR
    isplitl [He]; · iexact He
    iexact HO
  iintro ⟨Hp, Hz, HO⟩
  iapply (wp_block m 6 (off5_opp c) fullShare (xb m (prv (prv c))) (blk_of m rfl (read_top pM _))) $$ [Hp Hw Hb6]
  · isplitl [Hp]; · iexact Hp
    isplitl [Hw]; · iexact Hw
    iexact Hb6
  iintro ⟨Hp, Hw, Hc⟩
  iapply (wp_leave m 6 (off6_opp c)) $$ Hc
  iintro Hc
  iapply (wp_await m K (s := 11) (dstw := bot pM) (by decide) 0 (fun k h => absurd h (Nat.not_lt_zero k)) rfl
      (P := held (bot pM) c fullShare (xb m (nxt (nxt c)))) .rfl) $$ [He' HO]
  · isplitr; · iexact HR
    isplitl [He']; · iexact He'
    iexact HO
  iintro ⟨Hp', Hz', HO⟩
  iapply wp_done
  iapply Hk
  isplitl [Hc5]; · iexact Hc5
  isplitl [Hp]; · iexact Hp
  isplitl [Hz]; · iexact Hz
  isplitl [Hw]; · iexact Hw
  isplitl [Hc]; · iexact Hc
  isplitl [Hp']; · iexact Hp'
  isplitl [Hz']; · iexact Hz'
  iexact HO

end Cert.RingProof
-- ==== Proof.Closing.lean ====
/-
# The closing: the last block, and every copy waited for

Parts 9 and 10 of the kernel's body and what follows them, and with them the whole body: what a device holds when it
begins and what when it ends.
-/
module

public import proofs.«01_k».proof.Proof.Middle

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : (ℓ : Loc nD τ sig) → Buf (Elt F) ℓ)

variable (K : Dev nD × Fin 13 → ℕ)

/-- Part 9: the last block, and the first two sent halves back. -/
theorem wp_part9 (c : Dev nD) (v35 : BitVec 32) {Q : PUnit → sProp 𝕄} :
    iprop(records m K ∗ held (bot pM) c fullShare (xb m (nxt (nxt c))) ∗ wAt m c ∗ blank c 7 ∗ expects c 0 ∗ expects c 1 ∗ owing c 0)
      ⊢ iprop((held (bot pM) c fullShare (xb m (nxt (nxt c))) ∗ wAt m c ∗ leaving m c 7
              ∗ (held (top xM) c q₀ (xb m c) ∗ spent c 0) ∗ (held (bot xM) c q₀ (xb m c) ∗ spent c 1) ∗ owing c 0 -∗ Q ⟨⟩)
          -∗ wpc c (onRefs k0_part9 c v35) Q) := by
  unfold onRefs
  rw [k0_part9_eq_skeleton]
  unfold k0_part9_skel
  simp only [Prog.lift, Prog.bind_op, Prog.bind_ret, Prog.pure_eq_ret]
  iintro ⟨#HR, Hp, Hw, Hb, He0, He1, HO⟩ Hk
  iapply (wp_block m 7 (off5_opp' c) fullShare (xb m (nxt (nxt c))) (blk_of m rfl (read_bot pM _))) $$ [Hp Hw Hb]
  · isplitl [Hp]; · iexact Hp
    isplitl [Hw]; · iexact Hw
    iexact Hb
  iintro ⟨Hp, Hw, Hb⟩
  iapply (wp_leave m 7 (off6_opp' c)) $$ Hb
  iintro Hb
  iapply (wp_await m K (s := 0) (dstw := top xM) (by decide) 0 (fun k h => absurd h (Nat.not_lt_zero k)) rfl
      (P := held (top xM) c q₀ (xb m c)) .rfl) $$ [He0 HO]
  · isplitr; · iexact HR
    isplitl [He0]; · iexact He0
    iexact HO
  iintro ⟨Hx0, Hz0, HO⟩
  iapply (wp_await m K (s := 1) (dstw := bot xM) (by decide) 0 (fun k h => absurd h (Nat.not_lt_zero k)) rfl
      (P := held (bot xM) c q₀ (xb m c)) .rfl) $$ [He1 HO]
  · isplitr; · iexact HR
    isplitl [He1]; · iexact He1
    iexact HO
  iintro ⟨Hx1, Hz1, HO⟩
  iapply wp_done
  iapply Hk
  isplitl [Hp]; · iexact Hp
  isplitl [Hw]; · iexact Hw
  isplitl [Hb]; · iexact Hb
  isplitl [Hx0 Hz0]
  · isplitl [Hx0] <;> iassumption
  isplitl [Hx1 Hz1]
  · isplitl [Hx1] <;> iassumption
  iexact HO

/-- Part 10: the other sent halves back, and the first two blocks in place. -/
theorem wp_part10 (c : Dev nD) {Q : PUnit → sProp 𝕄} :
    iprop(records m K ∗ (expects c 2 ∗ expects c 3 ∗ expects c 4 ∗ expects c 5) ∗ leaving m c 0 ∗ leaving m c 1 ∗ owing c 0)
      ⊢ iprop(((held (bot xM) c q₁ (xb m c) ∗ spent c 2) ∗ (held (top xM) c q₁ (xb m c) ∗ spent c 3)
              ∗ (held (top lM) c q₀ (xb m (prv c)) ∗ spent c 4) ∗ (held (bot gM) c q₀ (xb m (nxt c)) ∗ spent c 5)
              ∗ inPlace m c 0 ∗ inPlace m c 1 ∗ owing c 0 -∗ Q ⟨⟩)
          -∗ wpc c (onRefs k0_part10 c) Q) := by
  unfold onRefs
  rw [k0_part10_eq_skeleton]
  unfold k0_part10_skel
  simp only [Prog.lift, Prog.bind_op, Prog.bind_ret, Prog.pure_eq_ret]
  iintro ⟨#HR, ⟨He2, He3, He4, He5⟩, Hb0, Hb1, HO⟩ Hk
  iapply (wp_await m K (s := 2) (dstw := bot xM) (by decide) 0 (fun k h => absurd h (Nat.not_lt_zero k)) rfl
      (P := held (bot xM) c q₁ (xb m c)) .rfl) $$ [He2 HO]
  · isplitr; · iexact HR
    isplitl [He2]; · iexact He2
    iexact HO
  iintro ⟨Hx2, Hz2, HO⟩
  iapply (wp_await m K (s := 3) (dstw := top xM) (by decide) 0 (fun k h => absurd h (Nat.not_lt_zero k)) rfl
      (P := held (top xM) c q₁ (xb m c)) .rfl) $$ [He3 HO]
  · isplitr; · iexact HR
    isplitl [He3]; · iexact He3
    iexact HO
  iintro ⟨Hx3, Hz3, HO⟩
  iapply (wp_await m K (s := 4) (dstw := top lM) (by decide) 0 (fun k h => absurd h (Nat.not_lt_zero k)) rfl
      (P := held (top lM) c q₀ (xb m (prv c))) .rfl) $$ [He4 HO]
  · isplitr; · iexact HR
    isplitl [He4]; · iexact He4
    iexact HO
  iintro ⟨Hx4, Hz4, HO⟩
  iapply (wp_await m K (s := 5) (dstw := bot gM) (by decide) 0 (fun k h => absurd h (Nat.not_lt_zero k)) rfl
      (P := held (bot gM) c q₀ (xb m (nxt c))) .rfl) $$ [He5 HO]
  · isplitr; · iexact HR
    isplitl [He5]; · iexact He5
    iexact HO
  iintro ⟨Hx5, Hz5, HO⟩
  iapply (wp_arrive m 0 rfl) $$ [Hb0 HO]
  · isplitl [Hb0] <;> iassumption
  iintro ⟨Hb0, HO⟩
  iapply (wp_arrive m 1 rfl) $$ [Hb1 HO]
  · isplitl [Hb1] <;> iassumption
  iintro ⟨Hb1, HO⟩
  iapply wp_done
  iapply Hk
  isplitl [Hx2 Hz2]
  · isplitl [Hx2] <;> iassumption
  isplitl [Hx3 Hz3]
  · isplitl [Hx3] <;> iassumption
  isplitl [Hx4 Hz4]
  · isplitl [Hx4] <;> iassumption
  isplitl [Hx5 Hz5]
  · isplitl [Hx5] <;> iassumption
  isplitl [Hb0]; · iexact Hb0
  isplitl [Hb1]; · iexact Hb1
  iexact HO

/-- What a device holds when its body begins: -/
def begins (c : Dev nD) : sProp 𝕄 :=
  iprop((unstaged aX xM c 12 (xb m c) ∗ unstaged aW wM c 13 (wb m c)) ∗ owing c 8
    ∗ (bell (prv c) true ∗ bell (nxt c) false ∗ gate c) ∗ (bpay (prv c) true ∗ bpay (nxt c) false)
    ∗ (idle c 0 ∗ idle c 1 ∗ idle c 2 ∗ idle c 3 ∗ idle c 4 ∗ idle c 5)
    ∗ (expects c 6 ∗ expects c 7 ∗ expects c 8 ∗ expects c 9 ∗ expects c 10 ∗ expects c 11)
    ∗ (tok (nxt c) 6 ∗ tok (nxt c) 7 ∗ tok (prv c) 8 ∗ tok (prv c) 9 ∗ tok (nxt c) 10 ∗ tok (prv c) 11)
    ∗ (blank c 0 ∗ blank c 1 ∗ blank c 2 ∗ blank c 3 ∗ blank c 4 ∗ blank c 5 ∗ blank c 6 ∗ blank c 7))

/-- and when it ends: its operands as they were, the result in place, every semaphore back at zero. -/
def ends (c : Dev nD) : sProp 𝕄 :=
  iprop(((aX.view.loc (c : Thread nD τ) ↦{fullShare} (xb m c : Buf (Elt F) (aX.view.loc (c : Thread nD τ))))
      ∗ (aW.view.loc (c : Thread nD τ) ↦{fullShare} (wb m c : Buf (Elt F) (aW.view.loc (c : Thread nD τ)))))
    ∗ ((∃ f, xM.view.loc (c : Thread nD τ) ↦{fullShare} f) ∗ (∃ f, wM.view.loc (c : Thread nD τ) ↦{fullShare} f)
      ∗ (∃ f, lM.view.loc (c : Thread nD τ) ↦{fullShare} f) ∗ (∃ f, gM.view.loc (c : Thread nD τ) ↦{fullShare} f)
      ∗ (∃ f, pM.view.loc (c : Thread nD τ) ↦{fullShare} f))
    ∗ (inPlace m c 0 ∗ inPlace m c 1 ∗ inPlace m c 2 ∗ inPlace m c 3 ∗ inPlace m c 4 ∗ inPlace m c 5 ∗ inPlace m c 6 ∗ inPlace m c 7)
    ∗ (spent c 0 ∗ spent c 1 ∗ spent c 2 ∗ spent c 3 ∗ spent c 4 ∗ spent c 5 ∗ spent c 6 ∗ spent c 7 ∗ spent c 8 ∗ spent c 9
      ∗ spent c 10 ∗ spent c 11 ∗ spent c 12 ∗ spent c 13)
    ∗ semVal (bcell c) 0 ∗ owing c 0)

/-- The body on one device. -/
theorem wp_body (c : Dev nD) {Q : PUnit → sProp 𝕄} :
    iprop(records m K ∗ begins m c) ⊢ iprop((ends m c -∗ Q ⟨⟩) -∗ wpc c (onRefs (cc0_body (F := F))) Q) := by
  unfold onRefs begins ends
  rw [cc0_body_eq_skeleton]
  unfold cc0_body_skel
  rw [k0_part1_eq_skeleton]
  unfold k0_part1_skel
  simp only [wpc, wp_bind, Prog.lift, Prog.bind_op, Prog.bind_ret, Prog.pure_eq_ret, wp_deviceId]
  iintro ⟨#HR, ⟨Hx, Hw⟩, HO, ⟨Hb1, Hb2, Hg⟩, ⟨Hp1, Hp2⟩, ⟨Hi0, Hi1, Hi2, Hi3, Hi4, Hi5⟩, ⟨He6, He7, He8, He9, He10, He11⟩, ⟨Hk6, Hk7, Hk8, Hk9, Hk10, Hk11⟩,
    ⟨Hj0, Hj1, Hj2, Hj3, Hj4, Hj5, Hj6, Hj7⟩⟩ Hk
  iapply (wp_part2 m K c _ _) $$ [Hx Hw HO Hb1 Hp1 Hb2 Hp2 Hg Hi0 Hk6]
  · isplitr; · iexact HR
    isplitl [Hx]; · iexact Hx
    isplitl [Hw]; · iexact Hw
    isplitl [HO]; · iexact HO
    isplitl [Hb1]; · iexact Hb1
    isplitl [Hp1]; · iexact Hp1
    isplitl [Hb2]; · iexact Hb2
    isplitl [Hp2]; · iexact Hp2
    isplitl [Hg]; · iexact Hg
    isplitl [Hi0]; · iexact Hi0
    iexact Hk6
  iintro ⟨Hx, Hz12, Hw, ⟨Ht1, Ht2⟩, ⟨Hb0, Hb1, Hb2⟩, HO, Hs, He0, ⟨Hrlb, Hrpt⟩, ⟨Hrgt, Hrgb, Hrpb⟩⟩
  iapply (wp_part3 m K c _ _ _) $$ [Hw Ht1 Ht2 Hb0 Hb1 HO Hrlb Hrgt Hrgb Hi1 Hi2 Hi3 Hk7 Hk8 Hk9 Hj0]
  · isplitr; · iexact HR
    isplitl [Hw]; · iexact Hw
    isplitl [Ht1 Ht2]
    · isplitl [Ht1]; · iexact Ht1
      iexact Ht2
    isplitl [Hb0 Hb1]
    · isplitl [Hb0]; · iexact Hb0
      iexact Hb1
    isplitl [HO]; · iexact HO
    isplitl [Hrlb Hrgt Hrgb]
    · isplitl [Hrlb]; · iexact Hrlb
      isplitl [Hrgt]; · iexact Hrgt
      iexact Hrgb
    isplitl [Hi1 Hi2 Hi3]
    · isplitl [Hi1]; · iexact Hi1
      isplitl [Hi2]; · iexact Hi2
      iexact Hi3
    isplitl [Hk7 Hk8 Hk9]
    · isplitl [Hk7]; · iexact Hk7
      isplitl [Hk8]; · iexact Hk8
      iexact Hk9
    iexact Hj0
  iintro ⟨HW, Hz13, Hw, Ht2, HO, ⟨He1, He2, He3⟩, Hj0⟩
  iapply (wp_part4 m K c _ _) $$ [Hj0 Hb2 Hw Hj1 He6 HO]
  · isplitr; · iexact HR
    isplitl [Hj0]; · iexact Hj0
    isplitl [Hb2]; · iexact Hb2
    isplitl [Hw]; · iexact Hw
    isplitl [Hj1]; · iexact Hj1
    isplitl [He6]; · iexact He6
    iexact HO
  iintro ⟨Hj0, Hb2, Hw, Hj1, Hlt, Hz6, HO⟩
  iapply (wp_part5 m K c _) $$ [Hlt Hrpt HO Hi4 Hk10 Hw Hj2 He8]
  · isplitr; · iexact HR
    isplitl [Hlt]; · iexact Hlt
    isplitl [Hrpt]; · iexact Hrpt
    isplitl [HO]; · iexact HO
    isplitl [Hi4]; · iexact Hi4
    isplitl [Hk10]; · iexact Hk10
    isplitl [Hw]; · iexact Hw
    isplitl [Hj2]; · iexact Hj2
    iexact He8
  iintro ⟨He4, Hlt, Hw, Hj2, Hgb, Hz8, HO⟩
  iapply (wp_part6 m K c _) $$ [Hgb Hrpb HO Hi5 Hk11 Hw Hj3 He7]
  · isplitr; · iexact HR
    isplitl [Hgb]; · iexact Hgb
    isplitl [Hrpb]; · iexact Hrpb
    isplitl [HO]; · iexact HO
    isplitl [Hi5]; · iexact Hi5
    isplitl [Hk11]; · iexact Hk11
    isplitl [Hw]; · iexact Hw
    isplitl [Hj3]; · iexact Hj3
    iexact He7
  iintro ⟨He5, Hgb, Hw, Hj3, Hlb, Hz7, HO⟩
  iapply (wp_part7 m K c _ _ _ _ (blk_of m rfl (read_bot lM _))) $$ [Hj4 He9 HO Hw Hj5]
  · isplitr; · iexact HR
    isplitl [Hj4]; · iexact Hj4
    isplitl [He9]; · iexact He9
    isplitl [HO]; · iexact HO
    isplitl [Hw]; · iexact Hw
    iexact Hj5
  iintro ⟨Hj4, Hgt, Hz9, Hw, Hj5, HO⟩
  iapply (wp_part8 m K c _ _ _) $$ [Hj5 He10 HO Hw Hj6 He11]
  · isplitr; · iexact HR
    isplitl [Hj5]; · iexact Hj5
    isplitl [He10]; · iexact He10
    isplitl [HO]; · iexact HO
    isplitl [Hw]; · iexact Hw
    isplitl [Hj6]; · iexact Hj6
    iexact He11
  iintro ⟨Hj5, Hpt, Hz10, Hw, Hj6, Hpb, Hz11, HO⟩
  iapply (wp_part9 m K c _) $$ [Hpb Hw Hj7 He0 He1 HO]
  · isplitr; · iexact HR
    isplitl [Hpb]; · iexact Hpb
    isplitl [Hw]; · iexact Hw
    isplitl [Hj7]; · iexact Hj7
    isplitl [He0]; · iexact He0
    isplitl [He1]; · iexact He1
    iexact HO
  iintro ⟨Hpb, Hw, Hj7, ⟨Ht0, Hz0⟩, ⟨Hb0, Hz1⟩, HO⟩
  iapply (wp_part10 m K c) $$ [He2 He3 He4 He5 Hj0 Hj1 HO]
  · isplitr; · iexact HR
    isplitl [He2 He3 He4 He5]
    · isplitl [He2]; · iexact He2
      isplitl [He3]; · iexact He3
      isplitl [He4]; · iexact He4
      iexact He5
    isplitl [Hj0]; · iexact Hj0
    isplitl [Hj1]; · iexact Hj1
    iexact HO
  iintro ⟨⟨Hb1, Hz2⟩, ⟨Ht1, Hz3⟩, ⟨Hlt0, Hz4⟩, ⟨Hgb0, Hz5⟩, Hj0, Hj1, HO⟩
  iapply (wp_arrive m 2 rfl) $$ [Hj2 HO]
  · isplitl [Hj2] <;> iassumption
  iintro ⟨Hj2, HO⟩
  iapply (wp_arrive m 3 rfl) $$ [Hj3 HO]
  · isplitl [Hj3] <;> iassumption
  iintro ⟨Hj3, HO⟩
  iapply (wp_arrive m 4 rfl) $$ [Hj4 HO]
  · isplitl [Hj4] <;> iassumption
  iintro ⟨Hj4, HO⟩
  iapply (wp_arrive m 5 rfl) $$ [Hj5 HO]
  · isplitl [Hj5] <;> iassumption
  iintro ⟨Hj5, HO⟩
  iapply (wp_arrive m 6 rfl) $$ [Hj6 HO]
  · isplitl [Hj6] <;> iassumption
  iintro ⟨Hj6, HO⟩
  iapply (wp_arrive m 7 rfl) $$ [Hj7 HO]
  · isplitl [Hj7] <;> iassumption
  iintro ⟨Hj7, HO⟩
  iapply wp_done
  iapply Hk
  isplitl [Hx HW]
  · isplitl [Hx] <;> iassumption
  isplitl [Ht0 Ht1 Ht2 Hb0 Hb1 Hb2 Hw Hlt Hlt0 Hlb Hgt Hgb Hgb0 Hpt Hpb]
  · isplitl [Ht0 Ht1 Ht2 Hb0 Hb1 Hb2]
    · iexists _
      iapply (halves_whole xM (View.set_whole _) c fullShare (xb m c)).2
      isplitl [Ht0 Ht1 Ht2]
      · iapply (held_thirds (top xM) c (xb m c)).2
        isplitl [Ht0]; · iexact Ht0
        isplitl [Ht1] <;> iassumption
      iapply (held_thirds (bot xM) c (xb m c)).2
      isplitl [Hb0]; · iexact Hb0
      isplitl [Hb1] <;> iassumption
    isplitl [Hw]
    · iexists _
      iapply (wAt_elim m c) $$ Hw
    isplitl [Hlt Hlt0 Hlb]
    · iexists _
      iapply (halves_whole lM (View.set_whole _) c fullShare (xb m (prv c))).2
      isplitr [Hlb]
      · iapply (held_halves (top lM) c (xb m (prv c))).2
        isplitl [Hlt0] <;> iassumption
      iexact Hlb
    isplitl [Hgt Hgb Hgb0]
    · iexists _
      iapply (halves_whole gM (View.set_whole _) c fullShare (xb m (nxt c))).2
      isplitl [Hgt]; · iexact Hgt
      iapply (held_halves (bot gM) c (xb m (nxt c))).2
      isplitl [Hgb0] <;> iassumption
    iexists _
    iapply (halves_whole pM (View.set_whole _) c fullShare (xb m (prv (prv c)))).2
    isplitl [Hpt]; · iexact Hpt
    iapply (show (held (bot pM) c fullShare (xb m (nxt (nxt c))) : sProp 𝕄) ⊢ held (bot pM) c fullShare (xb m (prv (prv c))) from by rw [prv_prv])
    iexact Hpb
  isplitl [Hj0 Hj1 Hj2 Hj3 Hj4 Hj5 Hj6 Hj7]
  · isplitl [Hj0]; · iexact Hj0
    isplitl [Hj1]; · iexact Hj1
    isplitl [Hj2]; · iexact Hj2
    isplitl [Hj3]; · iexact Hj3
    isplitl [Hj4]; · iexact Hj4
    isplitl [Hj5]; · iexact Hj5
    isplitl [Hj6]; · iexact Hj6
    iexact Hj7
  isplitl [Hz0 Hz1 Hz2 Hz3 Hz4 Hz5 Hz6 Hz7 Hz8 Hz9 Hz10 Hz11 Hz12 Hz13]
  · isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    isplitl [Hz6]; · iexact Hz6
    isplitl [Hz7]; · iexact Hz7
    isplitl [Hz8]; · iexact Hz8
    isplitl [Hz9]; · iexact Hz9
    isplitl [Hz10]; · iexact Hz10
    isplitl [Hz11]; · iexact Hz11
    isplitl [Hz12]; · iexact Hz12
    iexact Hz13
  isplitl [Hs]; · iexact Hs
  iexact HO

end Cert.RingProof
-- ==== Proof.Funding.lean ====
/-
# The funding: what every device is dealt at launch

The shared cells' rounds are created with every position and every right to pay; each right goes to the device that
pays it. The counters of all semaphores become the shared cells' invariants, and those of the local copies stay with
their device. Last, the credit that the launch hands a device for what the others owe it.
-/
module

public import proofs.«01_k».proof.Proof.Closing

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : (ℓ : Loc nD τ sig) → Buf (Elt F) ℓ)

/-! ## Cells and rights -/

/-- The thirteen shared semaphores of a device are different. -/
theorem csem_injective : Function.Injective csem := by decide
/-- So are those of all devices together. -/
theorem kcell_injective : Function.Injective (kcell : Dev nD × Fin 13 → GSem nD τ sig) := by
  rintro ⟨c, k⟩ ⟨c', k'⟩ h
  exact Prod.ext (congrArg (fun g : GSem nD τ sig => g.1.1) h) (csem_injective (congrArg Prod.snd h))
/-- The shared cells of all devices. -/
def ringCells : Finset (GSem nD τ sig) := Finset.univ.map ⟨kcell, kcell_injective⟩

/-- The duties of a device's cells: the barrier's two and one of each other cell. -/
abbrev dutyOf : Fin 14 → SemLoc sig × Bool
  | ⟨0, _⟩ => (.reg barS, true)
  | ⟨k + 1, h⟩ => (csem ⟨k, Nat.lt_of_succ_lt_succ h⟩, false)
/-- The fourteen duties of a device are different. -/
theorem dutyOf_injective : Function.Injective dutyOf := by decide
/-- Duty `j` of device `c`: the cell, the round and which of the cell's duties it is. -/
abbrev tokOf (cj : Dev nD × Fin 14) : GSem nD τ sig × ℕ × Bool := (((cj.1 : Thread nD τ), (dutyOf cj.2).1), 0, (dutyOf cj.2).2)
/-- No two of them are the same. -/
theorem tokOf_injective : Function.Injective (tokOf : Dev nD × Fin 14 → GSem nD τ sig × ℕ × Bool) := by
  rintro ⟨c, j⟩ ⟨c', j'⟩ h
  exact Prod.ext (congrArg (fun x : GSem nD τ sig × ℕ × Bool => x.1.1.1) h)
    (dutyOf_injective (congrArg (fun x : GSem nD τ sig × ℕ × Bool => (x.1.2, x.2.2)) h))
/-- The rights to pay of all devices. -/
def ringToks : Finset (GSem nD τ sig × ℕ × Bool) := Finset.univ.map ⟨tokOf, tokOf_injective⟩

/-- Which device's duty of each kind a device pays. -/
def paid : Fin 14 → Dev nD ≃ Dev nD :=
  ![ring.symm, ring, Equiv.refl _, Equiv.refl _, Equiv.refl _, Equiv.refl _, Equiv.refl _, Equiv.refl _, ring, ring, ring.symm, ring.symm, ring, ring.symm]

/-- The right to pay duty `j` of device `c`. -/
abbrev right (c : Dev nD) (j : Fin 14) : sProp 𝕄 := dutyTok ER (tokOf (c, j)).1 (tokOf (c, j)).2.1 (tokOf (c, j)).2.2

/-- The ghost state at launch: the launch's own, and the shared cells with every position and right. -/
def u₀ : UU := (initOf (Pipeline.cells cfgs cellOf_inj) (Pipeline.launchToks cfgs cellOf_inj), (initOf ringCells ringToks, 1))

/-- What device `c` is dealt of the shared cells' rounds. -/
def G (c : Dev nD) : sProp 𝕄 :=
  iprop((bigSep Finset.univ fun k : Fin 13 => roundState ER (Rd m) (kcell (c, k)) 0)
    ∗ (bigSep Finset.univ fun k : Fin 13 => iprop(atPos ER (kcell (c, k)) 0 ∅ 0 ∗ reached ER (kcell (c, k)) 0))
    ∗ bigSep Finset.univ fun j : Fin 14 => right c j)

omit [FloatOps F] in
/-- The shared cells' initial state is every device's cells, positions and rights. -/
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 13 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => bigSep Finset.univ fun j : Fin 14 => right c j := by
    unfold ringToks; rw [bigSep_map, bigSep_univ_prod]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Semaphores -/

/-- The kernel's own semaphores: all its DMA semaphores. -/
def osem : Fin 22 → SemLoc sig := fun i => .dma i
/-- The kernel's own semaphores are those listed. -/
theorem ownSemFacts : Pipeline.OwnSemFacts cfg0.spec osem := by decide

/-- The semaphores of a device's local copies. -/
abbrev lsem (i : Fin 10) : DmaSem sig := ⟨12 + i.val, by have : sig.nDmaSem = 22 := rfl; omega⟩

omit [FloatOps F] in
/-- The one semaphore that outlives the kernel is the barrier. -/
theorem unscopedSems0_eq (c : Dev nD) : (unscopedSems0 c : sProp 𝕄) = semVal (bcell c) 0 := by
  unfold unscopedSems0; rw [bigSep_eq_bigSepL_of_eq [SemLoc.reg barS] (by decide) (by decide)]; rfl

omit [FloatOps F] in
/-- The kernel's own semaphores, one by one. -/
theorem ownSems0_eq (c : Dev nD) :
    (Pipeline.ownSems0 (Ix := Unit) (Name := ℕ) (U := UU) (Lvl := ℕ) (Val := Elt F) (τ := τ) osem c : sProp 𝕄)
      = iprop((bigSep Finset.univ fun i : Fin 12 => spent c ⟨i.val, by have : sig.nDmaSem = 22 := rfl; omega⟩)
          ∗ bigSep Finset.univ fun i : Fin 10 => spent c (lsem i)) := by
  have e : (Pipeline.ownSems0 (Ix := Unit) (Name := ℕ) (U := UU) (Lvl := ℕ) (Val := Elt F) (τ := τ) osem c : sProp 𝕄)
      = bigSep Finset.univ fun i : Fin 22 => semVal (dcell c i) 0 := rfl
  rw [e, bigSep_univ_equiv (finSumFinEquiv (m := 12) (n := 10)), bigSep_univ_sum]
  rfl

omit [FloatOps F] in
/-- The shared cells' counters are the barrier's and the first twelve DMA semaphores'. -/
theorem vals_eq (c : Dev nD) : (bigSep Finset.univ fun k : Fin 13 => semVal (kcell (c, k)) 0 : sProp 𝕄)
    = iprop(semVal (bcell c) 0 ∗ bigSep Finset.univ fun i : Fin 12 => spent c ⟨i.val, by have : sig.nDmaSem = 22 := rfl; omega⟩) := by
  have hk : ∀ i : Fin 12, csem (Fin.natAdd 1 i) = .dma ⟨i.val, by have : sig.nDmaSem = 22 := rfl; omega⟩ := by decide
  rw [bigSep_univ_equiv (finSumFinEquiv (m := 1) (n := 12)), bigSep_univ_sum, bigSep_univ_eq_bigSepL [(0 : Fin 1)] (by decide) (by decide), bigSepL_singleton]
  refine congrArg _ (bigSep_congr fun i _ => ?_)
  show semVal ((c : Thread nD τ), csem (Fin.natAdd 1 i)) 0 = _
  rw [hk i]; rfl

omit [FloatOps F] in
/-- Each cell's counter becomes its invariant. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0))
          ∗ (bigSep Finset.univ fun j => right c j) ∗ bigSep Finset.univ fun i => spent c (lsem i)) := by
  unfold G
  rw [ownSems0_eq, unscopedSems0_eq]
  iintro ⟨⟨Hos, Hl⟩, Hus, Hst, Hat, Htok⟩
  ihave Hv := (Entails.of_eq (vals_eq (F := F) c).symm) $$ [Hos Hus]
  · isplitl [Hus] <;> iassumption
  imod (show iprop((bigSep Finset.univ fun k : Fin 13 => semVal (kcell (c, k)) 0) ∗ bigSep Finset.univ fun k : Fin 13 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-! ## What each device gets -/

/-- The invariants of all cells, and that each is open for its one round. -/
def known (K : Dev nD × Fin 13 → ℕ) : sProp 𝕄 :=
  iprop((bigSep Finset.univ fun ck : Dev nD × Fin 13 => cellInv ER (Rd m) (K ck) (kcell ck))
    ∗ bigSep Finset.univ fun ck : Dev nD × Fin 13 => reached ER (kcell ck) 0)
omit [FloatOps F] in
/-- What is known of the shared cells can be used again and again. -/
instance known_persistent (K : Dev nD × Fin 13 → ℕ) : BI.Persistent (known m K : sProp 𝕄) := by unfold known; infer_instance

/-- A device's positions at its cells, its rights to pay, and its local semaphores. -/
def dealt (c : Dev nD) : sProp 𝕄 :=
  iprop((bigSep Finset.univ fun k : Fin 13 => atPos ER (kcell (c, k)) 0 ∅ 0)
    ∗ (bigSep Finset.univ fun j : Fin 14 => right (paid j c) j) ∗ bigSep Finset.univ fun i : Fin 10 => spent c (lsem i))
/-- What a device begins with: the shared cells known, and what it is dealt. -/
def G' (c : Dev nD) : sProp 𝕄 := iprop(∃ K, known m K ∗ dealt c)

omit [FloatOps F] in
/-- Every right to pay goes to the device that pays. -/
theorem rights_around : (bigSep Finset.univ fun c : Dev nD => bigSep Finset.univ fun j : Fin 14 => (right c j : sProp 𝕄))
    = bigSep Finset.univ fun c : Dev nD => bigSep Finset.univ fun j : Fin 14 => right (paid j c) j := by
  rw [bigSep_univ_comm, bigSep_univ_comm (fun (c : Dev nD) (j : Fin 14) => (right (paid j c) j : sProp 𝕄))]
  exact bigSep_congr fun j _ => bigSep_univ_equiv (paid j) fun c => right c j

omit [FloatOps F] in
/-- Each right goes to the device that pays it. -/
theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0))
          ∗ (bigSep Finset.univ fun j => right c j) ∗ bigSep Finset.univ fun i => spent c (lsem i)) : sProp 𝕄)
      ⊢ bigSep Finset.univ (G' m) := by
  rw [bigSep_sep', bigSep_sep', bigSep_sep', ← bigSep_univ_prod (fun ck : Dev nD × Fin 13 => iprop(∃ κ : ℕ, cellInv ER (Rd m) κ (kcell ck))),
    bigSep_congr (s := Finset.univ) (fun (c : Dev nD) _ => bigSep_sep' Finset.univ (fun k : Fin 13 => (atPos ER (kcell (c, k)) 0 ∅ 0 : sProp 𝕄)) (fun k => reached ER (kcell (c, k)) 0)),
    bigSep_sep', ← bigSep_univ_prod (fun ck : Dev nD × Fin 13 => (reached ER (kcell ck) 0 : sProp 𝕄)), rights_around]
  iintro ⟨HI, ⟨Hat, #HR⟩, Htok, Hl⟩
  ihave HK := (BI.bigSep_exists_pi Finset.univ (fun (ck : Dev nD × Fin 13) (κ : ℕ) => (cellInv ER (Rd m) κ (kcell ck) : sProp 𝕄))) $$ HI
  icases HK with ⟨%K, #HI⟩
  have hd : ∀ c ∈ (Finset.univ : Finset (Dev nD)), iprop(known m K ∗ dealt c) ⊢ (G' m c : sProp 𝕄) := fun c _ => by
    unfold G'; iintro ⟨H₁, H₂⟩; iexists K; isplitl [H₁] <;> iassumption
  iapply ((sep_mono_left (BI.bigSep_of_persistent Finset.univ (known m K))).trans (by rw [← bigSep_sep']; exact bigSep_mono hd))
  isplitr
  · unfold known; isplitl; · iexact HI
    iexact HR
  unfold dealt
  simp only [bigSep_sep']
  isplitl [Hat]; · iexact Hat
  isplitl [Htok] <;> iassumption

omit [FloatOps F] in
/-- The step that all devices' semaphores and rounds take together. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch's credit -/

omit [FloatOps F] in
/-- What the others owe device `c` is the credit it waits with: two units at its barrier and one half at each receive
    semaphore. -/
theorem creds (c : Dev nD) :
    (Pipeline.launchCred (fun d => rem d 8) c : sProp 𝕄)
      ⊢ iprop(cred (tallyAt (bcell c) () 2) ∗ cred (tallyAt (dcell c 6) () N) ∗ cred (tallyAt (dcell c 7) () N) ∗ cred (tallyAt (dcell c 8) () N)
          ∗ cred (tallyAt (dcell c 9) () N) ∗ cred (tallyAt (dcell c 10) () N) ∗ cred (tallyAt (dcell c 11) () N)) := by
  have hs (n : ℕ) : (Pipeline.launchCred (fun d => rem d (n + 1)) c : sProp 𝕄)
      = iprop(Pipeline.launchCred (fun d => rem d n) c ∗ Pipeline.launchCred (fun d => tallyAt (debt d n) () (due n)) c) :=
    Pipeline.launchCred_add (fun d => rem d n) (fun d => tallyAt (debt d n) () (due n)) c
  have hn (sm : SemLoc sig) (n : ℕ) (h : ∀ d, debt d n = ((nxt d : Thread nD τ), sm)) :
      (Pipeline.launchCred (fun d => tallyAt (debt d n) () (due n)) c : sProp 𝕄) ⊢ cred (tallyAt ((c : Thread nD τ), sm) () (due n)) := by
    simp only [h]
    exact Pipeline.launchCred_tallyAt sm nxt prv nxt_prv prv_nxt () (due n) c
  have hp (sm : SemLoc sig) (n : ℕ) (h : ∀ d, debt d n = ((prv d : Thread nD τ), sm)) :
      (Pipeline.launchCred (fun d => tallyAt (debt d n) () (due n)) c : sProp 𝕄) ⊢ cred (tallyAt ((c : Thread nD τ), sm) () (due n)) := by
    simp only [h]
    exact Pipeline.launchCred_tallyAt sm prv nxt prv_nxt nxt_prv () (due n) c
  have h2 : (cred (tallyAt (bcell c) () 2) : sProp 𝕄) = cred (tallyAt (bcell c) () 1 + tallyAt (bcell c) () 1) := by rw [tallyAt_add]
  rw [hs 7, hs 6, hs 5, hs 4, hs 3, hs 2, hs 1, hs 0, h2]
  iintro ⟨⟨⟨⟨⟨⟨⟨⟨-, H0⟩, H1⟩, H2⟩, H3⟩, H4⟩, H5⟩, H6⟩, H7⟩
  isplitl [H6 H7]
  · iapply (cred_add _ _).2
    isplitl [H6]; · iapply (hn (.reg barS) 6 fun _ => rfl) $$ H6
    iapply (hp (.reg barS) 7 fun _ => rfl) $$ H7
  isplitl [H5]; · iapply (hn (.dma 6) 5 fun _ => rfl) $$ H5
  isplitl [H3]; · iapply (hn (.dma 7) 3 fun _ => rfl) $$ H3
  isplitl [H4]; · iapply (hp (.dma 8) 4 fun _ => rfl) $$ H4
  isplitl [H2]; · iapply (hp (.dma 9) 2 fun _ => rfl) $$ H2
  isplitl [H1]; · iapply (hn (.dma 10) 1 fun _ => rfl) $$ H1
  iapply (hp (.dma 11) 0 fun _ => rfl) $$ H0

end Cert.RingProof
-- ==== Proof.Launch.lean ====
/-
# The run: @main on all devices

The body's obligation to the launch, from what a device is dealt to what it ends with, and the launch itself: from any
memory, every execution of the kernel ends with the operands as they were, each device's result at `fin`, and every
semaphore at zero.
-/
module

public import proofs.«01_k».proof.Proof.Funding
public import Idealize.ShloMosaic.Lib.Pipeline.CollectiveSegs
public import Idealize.ShloMosaic.Lib.Quiescent

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : (ℓ : Loc nD τ sig) → Buf (Elt F) ℓ)

variable (ρ : Dev nD → PrngReg)

/-- What device `c` holds outside the kernel's scratch when the body begins. -/
def start (c : Dev nD) : sProp 𝕄 :=
  iprop((∃ K, known m K ∗ dealt c) ∗ levAts L lv ∗ Pipeline.launchCred (fun d => rem d 8) c
    ∗ Pipeline.unscopedRest cfg0.spec c (fun b => m ((c : Thread nD τ).loc b)))
/-- What it holds of the operands and of the result when the body has ended. -/
def result (c : Dev nD) : sProp 𝕄 :=
  iprop((((c : Thread nD τ).loc main_arg0) ↦{fullShare} (xb m c : Buf (Elt F) ((c : Thread nD τ).loc main_arg0)))
    ∗ (((c : Thread nD τ).loc main_arg1) ↦{fullShare} (wb m c : Buf (Elt F) ((c : Thread nD τ).loc main_arg1)))
    ∗ (((c : Thread nD τ).loc main_v1) ↦{fullShare} (fin m c : Buf (Elt F) ((c : Thread nD τ).loc main_v1))))

/-- What a device holds before the kernel. -/
def Φ₀ (c : Dev nD) : sProp 𝕄 := iprop(start m c ∗ Pipeline.scopedRest cfg0.spec c)
/-- What it holds after. -/
def Φ₁ (c : Dev nD) : sProp 𝕄 :=
  iprop((result m c ∗ unscopedSems0 c) ∗ Pipeline.ownSems0 osem c ∗ Pipeline.scopedRest cfg0.spec c)

/-! ## Lists -/

omit [FloatOps F] in
/-- Eight resources, one by one. -/
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

omit [FloatOps F] in
/-- A device's positions, one by one. -/
theorem positions_eq (c : Dev nD) : (bigSep Finset.univ fun k : Fin 13 => (atPos ER (kcell (c, k)) 0 ∅ 0 : sProp 𝕄))
    = iprop(atPos ER (bcell c) 0 ∅ 0 ∗ atPos ER (dcell c 0) 0 ∅ 0 ∗ atPos ER (dcell c 1) 0 ∅ 0 ∗ atPos ER (dcell c 2) 0 ∅ 0 ∗ atPos ER (dcell c 3) 0 ∅ 0 ∗ atPos ER (dcell c 4) 0 ∅ 0 ∗ atPos ER (dcell c 5) 0 ∅ 0 ∗ atPos ER (dcell c 6) 0 ∅ 0 ∗ atPos ER (dcell c 7) 0 ∅ 0 ∗ atPos ER (dcell c 8) 0 ∅ 0 ∗ atPos ER (dcell c 9) 0 ∅ 0 ∗ atPos ER (dcell c 10) 0 ∅ 0 ∗ atPos ER (dcell c 11) 0 ∅ 0) := by
  rw [bigSep_univ_eq_bigSepL [0, 1, 2, 3, 4, 5, 6, 7, 8, 9, 10, 11, 12] (by decide) (by decide)]; rfl
omit [FloatOps F] in
/-- The rights it pays, one by one. -/
theorem rights_eq (c : Dev nD) : (bigSep Finset.univ fun j : Fin 14 => (right (paid j c) j : sProp 𝕄))
    = iprop(bell (prv c) true ∗ bell (nxt c) false ∗ tok c 0 ∗ tok c 1 ∗ tok c 2 ∗ tok c 3 ∗ tok c 4 ∗ tok c 5
        ∗ tok (nxt c) 6 ∗ tok (nxt c) 7 ∗ tok (prv c) 8 ∗ tok (prv c) 9 ∗ tok (nxt c) 10 ∗ tok (prv c) 11) := by
  rw [bigSep_univ_eq_bigSepL [0, 1, 2, 3, 4, 5, 6, 7, 8, 9, 10, 11, 12, 13] (by decide) (by decide)]; rfl
omit [FloatOps F] in
/-- Its local copies' counters, one by one. -/
theorem locals_eq (c : Dev nD) : (bigSep Finset.univ fun i : Fin 10 => (spent c (lsem i) : sProp 𝕄))
    = iprop(spent c 12 ∗ spent c 13 ∗ bigSep Finset.univ fun j : Fin 8 => spent c (osm j)) := by
  rw [bigSep_fin8, bigSep_univ_eq_bigSepL [0, 1, 2, 3, 4, 5, 6, 7, 8, 9] (by decide) (by decide)]; rfl
omit [FloatOps F] in
/-- Its shared copies' counters, one by one. -/
theorem shared_eq (c : Dev nD) : (bigSep Finset.univ fun i : Fin 12 => (spent c ⟨i.val, by have : sig.nDmaSem = 22 := rfl; omega⟩ : sProp 𝕄))
    = iprop(spent c 0 ∗ spent c 1 ∗ spent c 2 ∗ spent c 3 ∗ spent c 4 ∗ spent c 5 ∗ spent c 6 ∗ spent c 7 ∗ spent c 8 ∗ spent c 9 ∗ spent c 10 ∗ spent c 11) := by
  rw [bigSep_univ_eq_bigSepL [0, 1, 2, 3, 4, 5, 6, 7, 8, 9, 10, 11] (by decide) (by decide)]; rfl

/-! ## The buffers, cut -/

omit [FloatOps F] in
/-- A landing buffer is two halves. -/
theorem rooms (b : Memref sig .tc .vmem S256x1024 .f32) (hb : b.view.set = Finset.univ) (c : Dev nD) :
    iprop(∃ f, b.view.loc (c : Thread nD τ) ↦{fullShare} f) ⊢ (iprop(room (top b) c ∗ room (bot b) c) : sProp 𝕄) := by
  unfold room
  iintro ⟨%f, H⟩
  ihave H := (halves_whole b hb c fullShare f).1 $$ H
  icases H with ⟨H₁, H₂⟩
  isplitl [H₁]; · iexists f; iexact H₁
  iexists f; iexact H₂

omit [FloatOps F] in
/-- Every row of the result is in one of the eight blocks. -/
theorem rset_mem (c : Dev nD) (i : S1024x256.Idx) : ∃ j, i ∈ rset (row c j) := by
  obtain ⟨j, -, hj⟩ := Finset.mem_biUnion.mp (rset_cover c ▸ Finset.mem_univ i)
  exact ⟨j, hj⟩

omit [FloatOps F] in
/-- The result and its buffer are eight blocks each. -/
theorem out_blocks (c : Dev nD) (f : S1024x256.Idx → Elt F .f32) :
    (oM.view.loc (c : Thread nD τ) ↦{fullShare} (f : Buf (Elt F) (oM.view.loc (c : Thread nD τ))) : sProp 𝕄) = bigSep Finset.univ fun j => oAt c j f := by
  unfold oAt
  refine Ring.pointsTo_blocks (ℓ := oM.view.loc (c : Thread nD τ)) (fun j : Fin 8 => rset (row c j)) (fun j j' h => rset_disjoint c j j' h) ?_ _
  refine Finset.eq_univ_of_forall fun i => Finset.mem_biUnion.mpr ?_
  obtain ⟨j, hj⟩ := rset_mem c i
  exact ⟨j, Finset.mem_univ _, hj⟩
omit [FloatOps F] in
/-- The result buffer held whole is its eight blocks. -/
theorem res_blocks (c : Dev nD) (f : S1024x256.Idx → Elt F .f32) :
    (yM.view.loc (c : Thread nD τ) ↦{fullShare} (f : Buf (Elt F) (yM.view.loc (c : Thread nD τ))) : sProp 𝕄) = bigSep Finset.univ fun j => yAt c j f := by
  unfold yAt
  refine Ring.pointsTo_blocks (ℓ := yM.view.loc (c : Thread nD τ)) (fun j : Fin 8 => rset (row c j)) (fun j j' h => rset_disjoint c j j' h) ?_ _
  refine Finset.eq_univ_of_forall fun i => Finset.mem_biUnion.mpr ?_
  obtain ⟨j, hj⟩ := rset_mem c i
  exact ⟨j, Finset.mem_univ _, hj⟩

omit [FloatOps F] in
/-- The staging buffer and the result, held whole, are the blank blocks that the body starts from. -/
theorem blanks (c : Dev nD) (f g : S1024x256.Idx → Elt F .f32) :
    iprop((oM.view.loc (c : Thread nD τ) ↦{fullShare} (f : Buf (Elt F) (oM.view.loc (c : Thread nD τ))))
        ∗ (yM.view.loc (c : Thread nD τ) ↦{fullShare} (g : Buf (Elt F) (yM.view.loc (c : Thread nD τ))))
        ∗ bigSep Finset.univ fun j : Fin 8 => spent c (osm j))
      ⊢ (bigSep Finset.univ fun j => blank c j : sProp 𝕄) := by
  rw [out_blocks, res_blocks, ← bigSep_sep', ← bigSep_sep']
  refine bigSep_mono fun j _ => ?_
  show iprop(oAt c j f ∗ yAt c j g ∗ spent c (osm j)) ⊢ blank c j
  unfold blank
  iintro ⟨Ho, Hy, Hs⟩
  isplitl [Ho]; · iexists f; iexact Ho
  isplitl [Hy]; · iexists g; iexact Hy
  iexact Hs

/-- The finished blocks make the result at `fin`. -/
theorem placed (c : Dev nD) :
    (bigSep Finset.univ fun j => inPlace m c j)
      ⊢ (iprop((yM.view.loc (c : Thread nD τ) ↦{fullShare} (fin m c : Buf (Elt F) (yM.view.loc (c : Thread nD τ))))
        ∗ (oM.view.loc (c : Thread nD τ) ↦{fullShare} (fin m c : Buf (Elt F) (oM.view.loc (c : Thread nD τ))))
        ∗ bigSep Finset.univ fun j : Fin 8 => spent c (osm j)) : sProp 𝕄) := by
  rw [out_blocks, res_blocks]
  unfold inPlace
  simp only [bigSep_sep']
  iintro ⟨⟨Hy, Ho⟩, Hs⟩
  isplitl [Hy]; · iexact Hy
  isplitl [Ho] <;> iassumption

/-! ## Beginning and end -/

/-- What a device is dealt is what its body begins with. -/
theorem begin_of (c : Dev nD) : iprop(Φ₀ m c ∗ owing c 8) ⊢ iprop(∃ K, records m K ∗ begins m c) := by
  unfold Φ₀ start dealt known
  rw [scopedRest0_eq, unscopedRest0_eq, positions_eq, rights_eq, locals_eq]
  iintro ⟨⟨⟨⟨%K, ⟨HI, HR⟩, ⟨Hab, Ha0, Ha1, Ha2, Ha3, Ha4, Ha5, Ha6, Ha7, Ha8, Ha9, Ha10, Ha11⟩, ⟨Hl1, Hl0, Ht0, Ht1, Ht2, Ht3, Ht4, Ht5, Ht6, Ht7, Ht8, Ht9, Ht10, Ht11⟩, Hz12, Hz13, Hzo⟩, Hlev, Hcr, Hax, Haw, Hy⟩, Hx, Hw, ⟨%f, Ho⟩, Hl, Hg, Hp⟩, HO⟩
  iexists K
  isplitl [HI HR Hlev]
  · unfold records
    isplitl [HI]; · iexact HI
    isplitl [HR] <;> iassumption
  ihave Hcr := (creds (F := F) c) $$ Hcr
  icases Hcr with ⟨Hcb, Hc6, Hc7, Hc8, Hc9, Hc10, Hc11⟩
  ihave Hl := (rooms lM (View.set_whole _) c) $$ Hl
  icases Hl with ⟨Hlt, Hlb⟩
  ihave Hg := (rooms gM (View.set_whole _) c) $$ Hg
  icases Hg with ⟨Hgt, Hgb⟩
  ihave Hp := (rooms pM (View.set_whole _) c) $$ Hp
  icases Hp with ⟨Hpt, Hpb⟩
  ihave Hj := (blanks c f (m ((c : Thread nD τ).loc main_v1))) $$ [Ho Hy Hzo]
  · isplitl [Ho]; · iexact Ho
    isplitl [Hy] <;> iassumption
  unfold begins
  isplitl [Hax Haw Hx Hw Hz12 Hz13]
  · unfold unstaged
    isplitl [Hax Hx Hz12]
    · isplitl [Hax]; · iexact Hax
      isplitl [Hx] <;> iassumption
    isplitl [Haw]; · iexact Haw
    isplitl [Hw] <;> iassumption
  isplitl [HO]; · iexact HO
  isplitl [Hl1 Hl0 Hab Hcb]
  · isplitl [Hl1]; · iexact Hl1
    isplitl [Hl0]; · iexact Hl0
    unfold gate
    isplitl [Hab] <;> iassumption
  isplitl [Hlt Hlb Hpt Hgt Hgb Hpb]
  · unfold bpay
    rw [if_pos rfl, if_neg (by decide), nxt_prv, prv_nxt]
    isplitl [Hlt Hlb Hpt]
    · isplitl [Hlt]; · iexact Hlt
      isplitl [Hlb] <;> iassumption
    isplitl [Hgt]; · iexact Hgt
    isplitl [Hgb] <;> iassumption
  isplitl [Ha0 Ht0 Ha1 Ht1 Ha2 Ht2 Ha3 Ht3 Ha4 Ht4 Ha5 Ht5]
  · unfold idle
    isplitl [Ha0 Ht0]
    · isplitl [Ha0] <;> iassumption
    isplitl [Ha1 Ht1]
    · isplitl [Ha1] <;> iassumption
    isplitl [Ha2 Ht2]
    · isplitl [Ha2] <;> iassumption
    isplitl [Ha3 Ht3]
    · isplitl [Ha3] <;> iassumption
    isplitl [Ha4 Ht4]
    · isplitl [Ha4] <;> iassumption
    isplitl [Ha5] <;> iassumption
  isplitl [Ha6 Hc6 Ha7 Hc7 Ha8 Hc8 Ha9 Hc9 Ha10 Hc10 Ha11 Hc11]
  · unfold expects
    isplitl [Ha6 Hc6]
    · isplitl [Ha6] <;> iassumption
    isplitl [Ha7 Hc7]
    · isplitl [Ha7] <;> iassumption
    isplitl [Ha8 Hc8]
    · isplitl [Ha8] <;> iassumption
    isplitl [Ha9 Hc9]
    · isplitl [Ha9] <;> iassumption
    isplitl [Ha10 Hc10]
    · isplitl [Ha10] <;> iassumption
    isplitl [Ha11] <;> iassumption
  isplitl [Ht6 Ht7 Ht8 Ht9 Ht10 Ht11]
  · isplitl [Ht6]; · iexact Ht6
    isplitl [Ht7]; · iexact Ht7
    isplitl [Ht8]; · iexact Ht8
    isplitl [Ht9]; · iexact Ht9
    isplitl [Ht10]; · iexact Ht10
    iexact Ht11
  rw [← bigSep_fin8]
  iexact Hj

/-- What the body ends with is what the device has to hand back. -/
theorem end_to (c : Dev nD) : ends m c ⊢ iprop(Φ₁ m c ∗ owing c 0) := by
  unfold ends Φ₁ result
  rw [scopedRest0_eq, ownSems0_eq, unscopedSems0_eq, locals_eq, shared_eq, ← bigSep_fin8 (F := F) (fun j => inPlace m c j)]
  iintro ⟨⟨Hax, Haw⟩, ⟨Hx, Hw, Hl, Hg, Hp⟩, Hj, ⟨Hz0, Hz1, Hz2, Hz3, Hz4, Hz5, Hz6, Hz7, Hz8, Hz9, Hz10, Hz11, Hz12, Hz13⟩, Hs, HO⟩
  ihave Hj := (placed m c) $$ Hj
  icases Hj with ⟨Hy, Ho, Hzo⟩
  isplitr [HO]
  · isplitl [Hax Haw Hy Hs]
    · isplitr [Hs]
      · isplitl [Hax]; · iexact Hax
        isplitl [Haw] <;> iassumption
      iexact Hs
    isplitl [Hz0 Hz1 Hz2 Hz3 Hz4 Hz5 Hz6 Hz7 Hz8 Hz9 Hz10 Hz11 Hz12 Hz13 Hzo]
    · isplitl [Hz0 Hz1 Hz2 Hz3 Hz4 Hz5 Hz6 Hz7 Hz8 Hz9 Hz10 Hz11]
      · isplitl [Hz0]; · iexact Hz0
        isplitl [Hz1]; · iexact Hz1
        isplitl [Hz2]; · iexact Hz2
        isplitl [Hz3]; · iexact Hz3
        isplitl [Hz4]; · iexact Hz4
        isplitl [Hz5]; · iexact Hz5
        isplitl [Hz6]; · iexact Hz6
        isplitl [Hz7]; · iexact Hz7
        isplitl [Hz8]; · iexact Hz8
        isplitl [Hz9]; · iexact Hz9
        isplitl [Hz10]; · iexact Hz10
        iexact Hz11
      isplitl [Hz12]; · iexact Hz12
      isplitl [Hz13] <;> iassumption
    isplitl [Hx]; · iexact Hx
    isplitl [Hw]; · iexact Hw
    isplitl [Ho]; · iexists (fin m c); iexact Ho
    isplitl [Hl]; · iexact Hl
    isplitl [Hg] <;> iassumption
  iexact HO

/-! ## The launch -/

/-- What the launch is told of each device: what it holds and owes before and after the kernel. -/
def dats (_ : Fin 1) (c : Dev nD) : Pipeline.Dat τ (Elt F) Unit ℕ UU ℕ cfg0 c where
  A w := w.elim0
  after w _ := w.elim0
  Φ t := match t with
    | ⟨0, _⟩ => Φ₀ m c
    | ⟨_ + 1, _⟩ => Φ₁ m c
  q w := w.elim0
  owed t := match t with
    | ⟨0, _⟩ => rem c 8
    | ⟨_ + 1, _⟩ => 0

/-- The kernel's body, run from what the device is dealt, hands back what it has to. -/
theorem body_obligation (c : Dev nD) : Pipeline.BodyObligation (dats (F := F) m 0 c) (defs₀ (F := F)) 𝒱₀ () Set.univ := fun t => by
  obtain rfl := fin_N0 t
  show iprop(Φ₀ m c ∗ (dats m 0 c).owesAt () t0_0.castSucc ∗ _) ⊢ wpc c (onRefs (cc0_body (F := F))) fun _ => iprop(Φ₁ m c ∗ (dats m 0 c).owesAt () t0_0.succ ∗ _)
  unfold Pipeline.Dat.owesAt Pipeline.owesWithin
  rw [show (dats m 0 c).owed t0_0.castSucc = rem c 8 from rfl, show (dats m 0 c).owed t0_0.succ = rem c 0 from rfl]
  iintro ⟨HΦ, ⟨%W, -, HO⟩, Hst⟩
  ihave Hb := (begin_of m c) $$ [HΦ HO]
  · isplitl [HΦ]; · iexact HΦ
    unfold owing; iexists W; iexact HO
  icases Hb with ⟨%K, #HR, Hb⟩
  iapply (wp_body m K c) $$ [Hb]
  · isplitr; · iexact HR
    iexact Hb
  iintro He
  ihave He := (end_to m c) $$ He
  icases He with ⟨HΦ, HO⟩
  unfold owing
  icases HO with ⟨%W', HO⟩
  isplitl [HΦ]; · iexact HΦ
  isplitl [HO]
  · iexists W'
    isplitr; · ipureintro; exact fun _ _ => Or.inl trivial
    iexact HO
  iexact Hst

/-- What the run leaves: the operands as they were and every device's result. -/
def Ends (c : Dev nD) (s : MemSt nD τ sig (Elt F)) : Prop :=
  s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_v1) = fin m c

omit [FloatOps F] in
/-- A buffer held whole is what the memory holds. -/
theorem read_whole {ℓ : Loc nD τ sig} (f : Buf (Elt F) ℓ) (s : Phys nD τ sig (Elt F)) :
    iprop((ℓ ↦{fullShare} f) ∗ SI s) ⊢ (iprop(⌜s.mem.mem ℓ = f⌝ ∗ SI s) : sProp 𝕄) := by
  iintro ⟨H, HSI⟩
  icombine HSI H gives %h
  isplitr
  · ipureintro; exact Buf.eq_of_forall_mem_univ h
  iexact HSI

/-- Holding the result at `fin`, a device's memory reads `fin` there. -/
theorem result_read (c : Dev nD) (s : Phys nD τ sig (Elt F)) :
    iprop((result m c ∗ unscopedSems0 c) ∗ iprop(emp) ∗ SI s)
      ⊢ |={Set.univ}=> iprop(⌜Ends m c s.mem ∧ ∀ sm : SemLoc sig, sm.isScoped .tc = false → s.mem.sem ((c.tc : Thread nD τ), sm) = 0⌝ ∗ SI s) := by
  unfold result
  iintro ⟨⟨⟨Hx, Hw, Hy⟩, Hu⟩, -, HSI⟩
  ihave H := (read_whole _ s) $$ [Hx HSI]
  · isplitl [Hx] <;> iassumption
  icases H with ⟨%hx, HSI⟩
  ihave H := (read_whole _ s) $$ [Hw HSI]
  · isplitl [Hw] <;> iassumption
  icases H with ⟨%hw, HSI⟩
  ihave H := (read_whole _ s) $$ [Hy HSI]
  · isplitl [Hy] <;> iassumption
  icases H with ⟨%hy, HSI⟩
  imod (Pipeline.unscopedSems0_read (X := unscopedSems0 c) (c := c) fupd_intro s) $$ [Hu HSI] with ⟨%hs, HSI⟩
  · isplitl [Hu] <;> iassumption
  imodintro
  isplitr
  · ipureintro; exact ⟨⟨hx, hw, hy⟩, hs⟩
  iexact HSI

/-- From any memory and counters at zero, every execution of @main on the four devices ends, with the operands as they
    were, each device's result at `fin`, and every semaphore at zero. -/
theorem run_main : θ_run defs (onTc (τ := τ) (main (F := F))) ⟨m, fun _ => 0, ρ⟩ (fun r => (∀ c, Ends m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := fun c => rem c 8) (howed₀ := fun _ => rfl) (howedN := fun _ => rfl)
    (L := L) (lv := lv) (hL := L_of_ne) (hwaits := fun c => Pipeline.cellsWaits_intro cfgs (dats m) () 0 c fun w _ _ => w.elim0)
    (G := G m) (G' := G' m) (u₀ := u₀)
    (hu₀ := by
      unfold u₀
      iintro Hu
      ihave H := (ownU_pair _ _) $$ Hu
      icases H with ⟨HP, HX⟩
      ihave H := (own_pair_emb embR _ _) $$ HX
      icases H with ⟨HX, -⟩
      imod (show BI.own (((Emb.inl : Emb UB (UB × Counters)).trans embR) (initOf ringCells ringToks)) ⊢ (|==> bigSep Finset.univ (G m) : sProp 𝕄) from fund_ring m) $$ HX with HG
      imodintro
      isplitl [HP] <;> iassumption)
    (hglob := glob m)
    (hA := fun _ w => w.elim0) (hpf := fun _ k => k.elim0)
    (X := start m) (Y := fun c => iprop(result m c ∗ unscopedSems0 c)) (Z := fun _ => iprop(emp))
    (hX := fun c => by
      rw [Pipeline.unscopedRestP_none]
      unfold start G'
      iintro ⟨Hb, Hlev, Hcr, -, HG⟩
      imodintro
      isplitl
      · isplitl [HG]; · iexact HG
        isplitl [Hlev]; · iexact Hlev
        isplitl [Hcr] <;> iassumption
      iempintro)
    (hin := fun c => show _ ⊢ Φ₀ m c from by
      unfold Φ₀
      iintro ⟨Hs, -, Hr⟩
      isplitl [Hs] <;> iassumption)
    (hout := fun c => show Φ₁ m c ⊢ _ from by unfold Φ₁; exact .rfl)
    (QY := fun c s => Ends m c s ∧ ∀ sm : SemLoc sig, sm.isScoped .tc = false → s.sem ((c.tc : Thread nD τ), sm) = 0)
    (hY := result_read m)
    (hQ := fun _ h hs => ⟨fun c => (h c).2.2.1, sem_eq_zero hs fun c => (h c).2.2.2⟩)

end Cert.RingProof
-- ==== Proof.Silu.lean ====
/- The extended real facts behind the two value claims: the two ways of writing the gate agree, and a product of
   two bounded vectors stays within the clip's bounds. -/
module

public import Idealize.ShloMosaic.Lib.IdealHost
public import Idealize.ShloMosaic.PureOps.Ideal.Laws

@[expose] public section

noncomputable section

namespace Cert.RingProof

open Idealize.ShloMosaic

/-- `y / (1 + exp (-z))`; with `z = y` it is the gate, with `z` the clipped `y` the reference's text. -/
def gated (y z : EReal) : EReal := Ideal.div y (1 + Ideal.exp (-z))

/-- The exponential is never negative. -/
theorem exp_nonneg (x : EReal) : 0 ≤ Ideal.exp x := by
  induction x with
  | bot => simp
  | top => simp
  | coe r => rw [Ideal.exp_coe]; exact_mod_cast (Real.exp_pos r).le

/-- The kernel's `y * logistic y` is `y / (1 + exp (-y))`, at the infinities too. -/
theorem mul_logistic (y : EReal) : y * Ideal.logistic y = gated y y := by
  have h : 1 + Ideal.exp (-y) ≠ 0 := by
    simpa using Ideal.one_add_sum_ne_zero {()} (fun _ => Ideal.exp (-y)) fun _ _ => exp_nonneg _
  exact Ideal.mul_one_div h

/-- The clip to `[-60, 60]`, the lower bound first. -/
def clip60 (y : EReal) : EReal := min ((60 : ℝ) : EReal) (max ((-60 : ℝ) : EReal) y)

/-- Between its bounds the clip is the identity. -/
theorem clip60_of_bounds {y : EReal} (lo : ((-60 : ℝ) : EReal) ≤ y) (hi : y ≤ ((60 : ℝ) : EReal)) : clip60 y = y := by
  rw [clip60, max_eq_right lo, min_eq_right hi]

/-- A square is never negative, and is `⊤` at the infinities. -/
theorem sq_nonneg' (x : EReal) : 0 ≤ x * x := by
  induction x with
  | bot => simp
  | top => simp
  | coe r => exact_mod_cast mul_self_nonneg r

/-- A vector whose sum of squares is at most a real has real entries only. -/
theorem real_of_sq {n : ℕ} (x : Fin n → EReal) (B : ℝ) (h : ∑ k, x k * x k ≤ (B : EReal)) : ∃ r : Fin n → ℝ, x = fun k => (r k : EReal) := by
  have hk : ∀ k, ∃ r : ℝ, x k = r := fun k => by
    have hle : x k * x k ≤ (B : EReal) :=
      (Finset.single_le_sum (f := fun k => x k * x k) (fun k _ => sq_nonneg' (x k)) (Finset.mem_univ k)).trans h
    generalize x k = y at hle
    induction y with
    | bot => simp at hle
    | top => simp at hle
    | coe r => exact ⟨r, rfl⟩
  exact ⟨fun k => (hk k).choose, funext fun k => (hk k).choose_spec⟩

/-- A sum of products of reals, read over the extended reals. -/
theorem sum_coe {n : ℕ} (a b : Fin n → ℝ) : ∑ k, ((a k : EReal) * (b k : EReal)) = ((∑ k, a k * b k : ℝ) : EReal) := by
  have h : ∀ s : Finset (Fin n), ∑ k ∈ s, ((a k : EReal) * (b k : EReal)) = ((∑ k ∈ s, a k * b k : ℝ) : EReal) := fun s => by
    classical
    induction s using Finset.induction_on with
    | empty => simp
    | insert k s hk ih => rw [Finset.sum_insert hk, Finset.sum_insert hk, ih, EReal.coe_add, EReal.coe_mul]
  exact h _

/-- Two vectors whose sums of squares are at most 1600 = 40² and 2.25 = 1.5² have a product between -60 and 60, by
    the Cauchy–Schwarz inequality, so the clip leaves it as it is. -/
theorem clip60_product {n : ℕ} (x w : Fin n → EReal) (hx : ∑ k, x k * x k ≤ ((1600 : ℝ) : EReal))
    (hw : ∑ k, w k * w k ≤ ((9 / 4 : ℝ) : EReal)) : clip60 (∑ k, x k * w k) = ∑ k, x k * w k := by
  obtain ⟨a, rfl⟩ := real_of_sq x _ hx
  obtain ⟨b, rfl⟩ := real_of_sq w _ hw
  rw [sum_coe, EReal.coe_le_coe_iff] at hx hw
  rw [sum_coe]
  have cs := Finset.sum_mul_sq_le_sq_mul_sq Finset.univ a b
  simp only [pow_two] at cs
  have h : (∑ k, a k * b k) * (∑ k, a k * b k) ≤ 60 * 60 :=
    cs.trans ((mul_le_mul hx hw (Finset.sum_nonneg fun k _ => mul_self_nonneg _) (by norm_num)).trans (by norm_num))
  have := abs_le_of_sq_le_sq' (a := ∑ k, a k * b k) (b := 60) (by rw [pow_two, pow_two]; exact h) (by norm_num)
  exact clip60_of_bounds (EReal.coe_le_coe_iff.2 this.1) (EReal.coe_le_coe_iff.2 this.2)

/-- The gate of a real, over the reals. -/
theorem gated_coe (y z : ℝ) : gated y z = ((y * (1 + Real.exp (-z))⁻¹ : ℝ) : EReal) := by
  have h : (1 : EReal) + Ideal.exp (-(z : EReal)) = ((1 + Real.exp (-z) : ℝ) : EReal) := by
    rw [← EReal.coe_neg, Ideal.exp_coe, ← EReal.coe_one, ← EReal.coe_add]
  have hne : ((1 + Real.exp (-z) : ℝ) : EReal) ≠ 0 := by
    exact_mod_cast (by positivity : (0 : ℝ) < 1 + Real.exp (-z)).ne'
  rw [gated, h, Ideal.div, if_neg hne, ← EReal.coe_inv, ← EReal.coe_mul]

/-- Beyond its bounds the clip changes the result: at -61 the two references differ. -/
theorem clip60_matters : gated ((-61 : ℝ) : EReal) (clip60 ((-61 : ℝ) : EReal)) ≠ gated ((-61 : ℝ) : EReal) ((-61 : ℝ) : EReal) := by
  have hc : clip60 ((-61 : ℝ) : EReal) = ((-60 : ℝ) : EReal) := by
    rw [clip60, max_eq_left (EReal.coe_le_coe_iff.2 (by norm_num)), min_eq_right (EReal.coe_le_coe_iff.2 (by norm_num))]
  rw [hc, gated_coe, gated_coe]
  intro e
  have e' := inv_injective (mul_left_cancel₀ (by norm_num) (EReal.coe_injective e))
  exact absurd (Real.exp_injective (add_left_cancel e')) (by norm_num)

end Cert.RingProof

end
-- ==== Proof.Value.lean ====
/- The values: at the ideal values the kernel's result on each device is that device's block of each reference's
   result. -/
module

public import proofs.«01_k».proof.Proof.Launch
public import proofs.«01_k».proof.Proof.Silu
public import proofs.«01_k».proof.Proof.Gen.ReferenceIdeal.Run
public import proofs.«01_k».proof.Proof.Gen.SiluIdeal.Run
public import proofs.«01_k».proof.Proof.Gen.Pre_rows_and_columns_bounded_KernelIdeal
public import Idealize.ShloMosaic.Lib.Layout
public import Idealize.ShloMosaic.Lib.MatmulPlain
public import Idealize.ShloMosaic.Lib.StackMember
public import Idealize.ShloMosaic.Lib.ReduceAll
public import Idealize.ShloMosaic.Lib.Pointwise.Reduce
public import Idealize.ShloMosaic.Lib.Pipeline.Value

@[expose] public section

noncomputable section

namespace Cert.RingProof

open Cert.KernelIdeal Cert.KernelIdeal.Gen
open Idealize.ShloMosaic Idealize.ShloMosaic.TcCoe

/-- A whole 1024 by 1024 array of the ideal values. -/
abbrev Whole : Type := (⟨2, ![1024, 1024]⟩ : Shape).Idx → EReal

/-- Entry `(r, c)` of the product of two whole arrays. -/
def entry (X W : Whole) (r c : Fin 1024) : EReal := ∑ k : Fin 1024, X (ix2 r k) * W (ix2 k c)

/-- Column `l` of device `c`'s block of the columns, as a column of the whole array. -/
def colOf (c : Dev nD) (l : Fin 256) : Fin 1024 := ⟨c.val * 256 + l.val, by have := c.isLt; change _ < 4 at this; omega⟩

/-- What a step of the kernel stores, at an index: the gate of the product's entry there. -/
theorem pay_apply (X : S128x1024.Idx → EReal) (W : S1024x256.Idx → EReal) (r : Fin 128) (c : Fin 256) :
    k0_pay1 (F := Ideal) X W (ix2 r c) = gated (∑ k : Fin 1024, X (ix2 r k) * W (ix2 k c)) (∑ k : Fin 1024, X (ix2 r k) * W (ix2 k c)) := by
  have h : matmul (F := Ideal) (φ₁ := .f32) (φ₂ := .f32) dot_S128x1024_S1024x256_S128x256_1_0_0_1_n_n none X W (constant S128x256 .f32 0x00000000#32) (ix2 r c)
      = ∑ k : Fin 1024, X (ix2 r k) * W (ix2 k c) :=
    (Ideal.matmul_plain_apply none X W _ r c).trans (by
      show Ideal.ofBits .f32 0x00000000#32 + _ = _
      rw [Ideal.ofBits_zero_f32, zero_add]
      rfl)
  unfold k0_pay1
  rw [shapeCast_self]
  show matmul (F := Ideal) _ _ _ _ _ _ * Ideal.logistic (matmul (F := Ideal) _ _ _ _ _ _) = _
  rw [h, mul_logistic]

/-- Device `c`'s result, at an index, from the whole arrays whose blocks the devices hold: the gate of that entry of
    the whole product, in block `c` of the columns. -/
theorem fin_apply (m : (ℓ : Loc nD τ sig) → Buf (Elt Ideal) ℓ) (X W : Whole)
    (hX : ∀ d : Dev nD, xb m d = Layout.block ⟨2, ![256, 1024]⟩ ⟨2, ![1024, 1024]⟩ 0 4 d X)
    (hW : ∀ d : Dev nD, wb m d = Layout.block ⟨2, ![1024, 256]⟩ ⟨2, ![1024, 1024]⟩ 1 4 d W)
    (c : Dev nD) (r : Fin 1024) (l : Fin 256) :
    fin m c (ix2 r l) = gated (entry X W r (colOf c l))
      (entry X W r (colOf c l)) := by
  unfold fin
  refine (pay_apply _ _ ⟨r.val % 128, _⟩ l).trans ?_
  have e : (∑ k : Fin 1024, half ⟨r.val / 128 % 2, Nat.mod_lt _ (by decide)⟩ (xb m ⟨r.val / 256, by change _ < 4; omega⟩) (ix2 ⟨r.val % 128, Nat.mod_lt _ (by decide)⟩ k) * wb m c (ix2 k l))
      = entry X W r (colOf c l) := by
    refine Finset.sum_congr rfl fun k _ => ?_
    rw [hX, hW]
    refine congrArg₂ (· * ·) (congrArg X ?_) (congrArg W ?_)
    · funext a; apply Fin.ext
      fin_cases a
      · change r.val / 256 * 256 + (128 * (r.val / 128 % 2) + r.val % 128) = r.val; omega
      · rfl
    · funext a; apply Fin.ext
      fin_cases a
      · rfl
      · rfl
  exact congrArg₂ gated e e

/-- The reference's product on the host, at an index. -/
theorem host_entry (X W : Whole) (r c : Fin 1024) :
    Host.dotGeneral (F := Ideal) (φ₁ := .f32) (φ₂ := .f32) Cert.SiluIdeal.dot_S1024x1024_S1024x1024_S1024x1024_1_0_0_1_n_n none X W (ix2 r c) = entry X W r c :=
  StackMember.dotGeneral_plain_apply (φ₁ := .f32) (φ₂ := .f32) none X W r c

/-- The pattern of 1600. -/
theorem bits_1600 : Ideal.ofBits .f32 0x44C80000#32 = ((1600 : ℝ) : EReal) := by
  simp [Ideal.ofBits, Ideal.ieee, -EReal.coe_mul]; norm_num

/-- The pattern of 2.25. -/
theorem bits_2_25 : Ideal.ofBits .f32 0x40100000#32 = ((9 / 4 : ℝ) : EReal) := by
  simp [Ideal.ofBits, Ideal.ieee, -EReal.coe_mul]; norm_num

/-- The pattern of 60. -/
theorem bits_60 : Ideal.ofBits .f32 0x42700000#32 = ((60 : ℝ) : EReal) := by
  simp [Ideal.ofBits, Ideal.ieee, -EReal.coe_mul]; norm_num

/-- The pattern of -60. -/
theorem bits_neg_60 : Ideal.ofBits .f32 0xC2700000#32 = ((-60 : ℝ) : EReal) := by
  simp [Ideal.ofBits, Ideal.ieee, -EReal.coe_mul, -EReal.coe_neg]; norm_num

/-- The whole result without the clip, from the two whole arguments. -/
def siluOf (X W : Whole) : Whole := fun i => gated (entry X W (i 0) (i 1)) (entry X W (i 0) (i 1))

/-- The whole result with the clip, from the two whole arguments. -/
def refOf (X W : Whole) : Whole := fun i => gated (entry X W (i 0) (i 1)) (clip60 (entry X W (i 0) (i 1)))

/-- The operations after the product in the reference without the clip, at an index. -/
theorem silu_ops (Y : FVec Ideal Cert.SiluIdeal.S1024x1024 .f32) (i : Cert.SiluIdeal.S1024x1024.Idx) :
    Host.divf Y (addf (broadcastInDim Cert.SiluIdeal.S1024x1024 ![] Cert.SiluIdeal.Gen.facts.bcast_S_S1024x1024 (constant Cert.SiluIdeal.S_ .f32 0x3F800000#32)) (Host.exp (Host.negf Y))) i
      = gated (Y i) (Y i) := by
  show Ideal.div (Y i) (Ideal.ofBits .f32 0x3F800000#32 + Ideal.exp (-(Y i : EReal))) = _
  rw [Ideal.ofBits_one_f32]
  rfl

/-- The operations after the product in the reference, at an index. -/
theorem ref_ops (Y : FVec Ideal Cert.ReferenceIdeal.S1024x1024 .f32) (i : Cert.ReferenceIdeal.S1024x1024.Idx) :
    Host.divf Y (addf (broadcastInDim Cert.ReferenceIdeal.S1024x1024 ![] Cert.ReferenceIdeal.Gen.facts.bcast_S_S1024x1024 (constant Cert.ReferenceIdeal.S_ .f32 0x3F800000#32))
      (Host.exp (Host.negf (minimumf (broadcastInDim Cert.ReferenceIdeal.S1024x1024 ![] Cert.ReferenceIdeal.Gen.facts.bcast_S_S1024x1024 (id (constant Cert.ReferenceIdeal.S_ .f32 0x42700000#32)))
        (maximumf (broadcastInDim Cert.ReferenceIdeal.S1024x1024 ![] Cert.ReferenceIdeal.Gen.facts.bcast_S_S1024x1024 (id (constant Cert.ReferenceIdeal.S_ .f32 0xC2700000#32))) Y))))) i
      = gated (Y i) (clip60 (Y i)) := by
  show Ideal.div (Y i) (Ideal.ofBits .f32 0x3F800000#32 + Ideal.exp (-(min (Ideal.ofBits .f32 0x42700000#32) (max (Ideal.ofBits .f32 0xC2700000#32) (Y i : EReal))))) = _
  rw [Ideal.ofBits_one_f32, bits_60, bits_neg_60]
  rfl

/-- The whole result of the reference without the clip. -/
theorem silu_eq (X W : Whole) (Y : FVec Ideal Cert.SiluIdeal.S1024x1024 .f32)
    (hY : Y = Host.dotGeneral (F := Ideal) (φ₁ := .f32) (φ₂ := .f32) Cert.SiluIdeal.dot_S1024x1024_S1024x1024_S1024x1024_1_0_0_1_n_n none X W) :
    (fun i => gated (Y i) (Y i)) = siluOf X W := by
  funext i
  have h : Y i = entry X W (i 0) (i 1) := by rw [hY, eq_ix2 i]; exact host_entry X W (i 0) (i 1)
  rw [h]; rfl

/-- The whole result of the reference. -/
theorem ref_eq (X W : Whole) (Y : FVec Ideal Cert.ReferenceIdeal.S1024x1024 .f32)
    (hY : Y = Host.dotGeneral (F := Ideal) (φ₁ := .f32) (φ₂ := .f32) Cert.ReferenceIdeal.dot_S1024x1024_S1024x1024_S1024x1024_1_0_0_1_n_n none X W) :
    (fun i => gated (Y i) (clip60 (Y i))) = refOf X W := by
  funext i
  have h : Y i = entry X W (i 0) (i 1) := by rw [hY, eq_ix2 i]; exact host_entry X W (i 0) (i 1)
  rw [h]; rfl

/-- Device `c`'s result is block `c` of the columns of the whole result without the clip. -/
theorem fin_block (m : (ℓ : Loc nD τ sig) → Buf (Elt Ideal) ℓ) (X W : Whole)
    (hX : ∀ d : Dev nD, xb m d = Layout.block ⟨2, ![256, 1024]⟩ ⟨2, ![1024, 1024]⟩ 0 4 d X)
    (hW : ∀ d : Dev nD, wb m d = Layout.block ⟨2, ![1024, 256]⟩ ⟨2, ![1024, 1024]⟩ 1 4 d W) (c : Dev nD) :
    fin m c = Layout.block ⟨2, ![1024, 256]⟩ ⟨2, ![1024, 1024]⟩ 1 4 c (siluOf X W) := by
  funext i
  rw [eq_ix2 i]
  exact fin_apply m X W hX hW c (i 0) (i 1)

/-- A comparison `≤` that came out 1 holds. -/
theorem ole_of_cmp {a b : EReal} (h : Ideal.cmp .ole a b = 1#1) : a ≤ b := by
  by_contra hn
  simp [Ideal.cmp, hn] at h

/-- What the precondition says of a device's blocks: each row of `x` has a sum of squares of at most 1600, each
    column of `w` one of at most 2.25. -/
theorem bounds_of_pre (x : S256x1024.Idx → EReal) (w : S1024x256.Idx → EReal)
    (h : Cert.Pre_rows_and_columns_bounded_KernelIdeal.fn (F := Ideal) x w = fun _ => 1#1) :
    (∀ r : Fin 256, ∑ k : Fin 1024, x (ix2 r k) * x (ix2 r k) ≤ ((1600 : ℝ) : EReal))
      ∧ ∀ c : Fin 256, ∑ k : Fin 1024, w (ix2 k c) * w (ix2 k c) ≤ ((9 / 4 : ℝ) : EReal) := by
  obtain ⟨hx, hw⟩ := IntOp.andi_eq_one.1 (congrFun h ix0)
  constructor
  · intro r
    have e := ole_of_cmp (Host.reduce_andi_eq_one _ _ _ _ _ hx (ix1 r) (Subsingleton.elim _ _))
    change Ideal.hostReduceAdd _ _ (Ideal.ofBits .f32 0x00000000#32) _ ≤ Ideal.ofBits .f32 0x44C80000#32 at e
    rw [Ideal.hostReduceAdd_r2_a1, bits_1600, Ideal.ofBits_zero_f32, zero_add] at e
    exact e
  · intro c
    have e := ole_of_cmp (Host.reduce_andi_eq_one _ _ _ _ _ hw (ix1 c) (Subsingleton.elim _ _))
    change Ideal.hostReduceAdd _ _ (Ideal.ofBits .f32 0x00000000#32) _ ≤ Ideal.ofBits .f32 0x40100000#32 at e
    rw [Ideal.hostReduceAdd_r2_a0, bits_2_25, Ideal.ofBits_zero_f32, zero_add] at e
    exact e

/-- Under the precondition on every device's blocks the clip changes nothing: the two references compute the same
    whole result. -/
theorem ref_eq_silu (m : (ℓ : Loc nD τ sig) → Buf (Elt Ideal) ℓ) (X W : Whole)
    (hX : ∀ d : Dev nD, xb m d = Layout.block ⟨2, ![256, 1024]⟩ ⟨2, ![1024, 1024]⟩ 0 4 d X)
    (hW : ∀ d : Dev nD, wb m d = Layout.block ⟨2, ![1024, 256]⟩ ⟨2, ![1024, 1024]⟩ 1 4 d W)
    (hp : ∀ d : Dev nD, Cert.Pre_rows_and_columns_bounded_KernelIdeal.fn (F := Ideal) (xb m d) (wb m d) = fun _ => 1#1) :
    refOf X W = siluOf X W := by
  funext i
  have hr : (i 0).val < 1024 := (i 0).isLt
  have hc : (i 1).val < 1024 := (i 1).isLt
  have bx := (bounds_of_pre _ _ (hp ⟨(i 0).val / 256, by change _ < 4; omega⟩)).1 ⟨(i 0).val % 256, Nat.mod_lt _ (by decide)⟩
  have bw := (bounds_of_pre _ _ (hp ⟨(i 1).val / 256, by change _ < 4; omega⟩)).2 ⟨(i 1).val % 256, Nat.mod_lt _ (by decide)⟩
  rw [hX] at bx
  rw [hW] at bw
  have ex : ∀ k : Fin 1024, (Layout.block ⟨2, ![256, 1024]⟩ ⟨2, ![1024, 1024]⟩ 0 4 ⟨(i 0).val / 256, by omega⟩ X) (ix2 ⟨(i 0).val % 256, Nat.mod_lt _ (by decide)⟩ k) = X (ix2 (i 0) k) := fun k => by
    refine congrArg X (funext fun a => Fin.ext ?_)
    fin_cases a
    · change (i 0).val / 256 * 256 + (i 0).val % 256 = (i 0).val; omega
    · rfl
  have ew : ∀ k : Fin 1024, (Layout.block ⟨2, ![1024, 256]⟩ ⟨2, ![1024, 1024]⟩ 1 4 ⟨(i 1).val / 256, by omega⟩ W) (ix2 k ⟨(i 1).val % 256, Nat.mod_lt _ (by decide)⟩) = W (ix2 k (i 1)) := fun k => by
    refine congrArg W (funext fun a => Fin.ext ?_)
    fin_cases a
    · rfl
    · change (i 1).val / 256 * 256 + (i 1).val % 256 = (i 1).val; omega
  have h : clip60 (entry X W (i 0) (i 1)) = entry X W (i 0) (i 1) :=
    clip60_product (fun k => X (ix2 (i 0) k)) (fun k => W (ix2 k (i 1)))
      ((Finset.sum_congr rfl fun k _ => by rw [ex k]).ge.trans bx) ((Finset.sum_congr rfl fun k _ => by rw [ew k]).ge.trans bw)
  show gated _ (clip60 (entry X W (i 0) (i 1))) = gated _ _
  rw [h]

end Cert.RingProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.SiluIdeal
public import proofs.«01_k».proof.Proof.Gen.Pre_rows_and_columns_bounded_KernelIdeal
public import proofs.«01_k».proof.Proof.Gen.Pre_rows_and_columns_bounded_ReferenceIdeal
public import proofs.«01_k».proof.Proof.Value
public import Idealize.ShloMosaic.Adequacy
public import Idealize.ShloMosaic.Init

@[expose] public section

noncomputable section

namespace Cert.Proof

open Idealize.ShloMosaic Idealize.SL.Sem Cert.Kernel

/-- Every run of `KernelIdeal`'s text over any float values ends, leaves the arguments as they were and the counters at
    zero. -/
theorem run_quiet {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩ (fun r =>
      (∀ c : Dev Cert.KernelIdeal.nD, r.2.mem ((c.tc : Thread _ _).loc Cert.KernelIdeal.main_arg0) = m ((c.tc : Thread _ _).loc Cert.KernelIdeal.main_arg0)
        ∧ r.2.mem ((c.tc : Thread _ _).loc Cert.KernelIdeal.main_arg1) = m ((c.tc : Thread _ _).loc Cert.KernelIdeal.main_arg1))
      ∧ r.2.sem = fun _ => 0) :=
  (θ_run Cert.KernelIdeal.defs _ _).mono (fun _ h => ⟨fun c => ⟨(h.1 c).1, (h.1 c).2.1⟩, h.2⟩) (Cert.RingProof.run_main m ρ)

/-- The kernel ends with its arguments unchanged and every counter at zero. -/
theorem frame_kernel : Cert.quiescent_Kernel := fun m ρ _ => run_quiet (F := Bits) m ρ

/-- So does the kernel over the ideal values. -/
theorem frame_ideal : Cert.quiescent_KernelIdeal := fun m ρ _ => run_quiet m ρ

/-- And on blocks within the bounds in particular. -/
theorem frame_ideal_pre : Cert.quiescent_KernelIdeal_pre_rows_and_columns_bounded_KernelIdeal := fun m ρ _ => run_quiet m ρ

/-- The kernel over the ideal values computes the unclipped reference's result. -/
theorem alg_silu : Cert.algebraic_KernelIdeal_SiluIdeal := by
  intro m g m' g' _ hb
  refine ⟨Cert.RingProof.siluOf (m' ((0 : Dev Cert.SiluIdeal.nD).tc.loc Cert.SiluIdeal.main_arg0)) (m' ((0 : Dev Cert.SiluIdeal.nD).tc.loc Cert.SiluIdeal.main_arg1)), ?_, ?_⟩
  · refine (θ_run Cert.KernelIdeal.defs _ _).mono (fun _ h c => ⟨?_, (h.1 c).1, (h.1 c).2.1⟩) (Cert.RingProof.run_main m g)
    exact (h.1 c).2.2.trans (Cert.RingProof.fin_block m _ _ (fun d => (hb d).1) (fun d => (hb d).2) c)
  · refine (θ_run Cert.SiluIdeal.defs _ _).mono (fun _ h => ⟨?_, (h 0).2⟩) (Cert.SiluIdeal.Value.run m' g')
    exact (h 0).1.trans ((funext fun i => Cert.RingProof.silu_ops _ i).trans (Cert.RingProof.silu_eq _ _ _ rfl))

/-- On blocks within the bounds the kernel over the ideal values computes the reference's result. -/
theorem alg_ref : Cert.algebraic_KernelIdeal_ReferenceIdeal_pre_rows_and_columns_bounded_KernelIdeal := by
  intro m g m' g' hp hb
  refine ⟨Cert.RingProof.refOf (m' ((0 : Dev Cert.ReferenceIdeal.nD).tc.loc Cert.ReferenceIdeal.main_arg0)) (m' ((0 : Dev Cert.ReferenceIdeal.nD).tc.loc Cert.ReferenceIdeal.main_arg1)), ?_, ?_⟩
  · refine (θ_run Cert.KernelIdeal.defs _ _).mono (fun _ h c => ⟨?_, (h.1 c).1, (h.1 c).2.1⟩) (Cert.RingProof.run_main m g)
    rw [Cert.RingProof.ref_eq_silu m _ _ (fun d => (hb d).1) (fun d => (hb d).2) (fun d => hp d)]
    exact (h.1 c).2.2.trans (Cert.RingProof.fin_block m _ _ (fun d => (hb d).1) (fun d => (hb d).2) c)
  · refine (θ_run Cert.ReferenceIdeal.defs _ _).mono (fun _ h => ⟨?_, (h 0).2⟩) (Cert.ReferenceIdeal.Value.run m' g')
    exact (h 0).1.trans ((funext fun i => Cert.RingProof.ref_ops _ i).trans (Cert.RingProof.ref_eq _ _ _ rfl))

/-- The reference declares no semaphore, so its run's last memory has every counter at zero. -/
theorem run_ref (m : (ℓ : Loc Cert.ReferenceIdeal.nD Cert.ReferenceIdeal.τ Cert.ReferenceIdeal.sig) → Buf (Elt Ideal) ℓ)
    (g : Dev Cert.ReferenceIdeal.nD → PrngReg) :
    θ_run Cert.ReferenceIdeal.defs (onTc (τ := Cert.ReferenceIdeal.τ) Cert.ReferenceIdeal.main) ⟨m, fun _ => 0, g⟩ (fun r =>
      (∀ c : Dev Cert.ReferenceIdeal.nD, r.2.mem ((c.tc : Thread _ _).loc Cert.ReferenceIdeal.main_arg0) = m ((c.tc : Thread _ _).loc Cert.ReferenceIdeal.main_arg0)
        ∧ r.2.mem ((c.tc : Thread _ _).loc Cert.ReferenceIdeal.main_arg1) = m ((c.tc : Thread _ _).loc Cert.ReferenceIdeal.main_arg1))
      ∧ r.2.sem = fun _ => 0) :=
  (θ_run Cert.ReferenceIdeal.defs _ _).mono (fun r h => ⟨fun c => (h c).2, sem_eq_zero_of_no_sems (by decide) r.2⟩)
    (Cert.ReferenceIdeal.Value.run m g)

/-- Nor does the reference without the clip. -/
theorem frame_silu : Cert.quiescent_SiluIdeal := fun m g _ =>
  (θ_run Cert.SiluIdeal.defs _ _).mono (fun r h => ⟨fun c => (h c).2, sem_eq_zero_of_no_sems (by decide) r.2⟩)
    (Cert.SiluIdeal.Value.run m g)

/-- All the claims together. -/
theorem claim : Cert.Claim := ⟨Cert.Kernel.Gen.facts, Cert.KernelIdeal.Gen.facts, Cert.ReferenceIdeal.Gen.facts, Cert.SiluIdeal.Gen.facts, Cert.Pre_rows_and_columns_bounded_KernelIdeal.Gen.facts, Cert.Pre_rows_and_columns_bounded_ReferenceIdeal.Gen.facts, by
  exact ⟨frame_kernel, frame_ideal, frame_ideal_pre, fun m g _ => run_ref m g, fun m g _ => run_ref m g, frame_silu, trivial, alg_silu, alg_ref⟩⟩

end Cert.Proof

end
